-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "least" .bf16 0xFF62#16 ⊥
  ∧ IdealRules.named_const.Statement Cert.KernelIdeal.κ "tenth" .f32 0x3DCCCCCD#32 ((10⁻¹ : ℝ) : EReal)

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v236) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_in_domain : Cert.Pre_in_domain.Facts),
    quiescent_Kernel (hKernel := hKernel) (hPre_in_range := hPre_in_range)
    ∧ quiescent_KernelIdeal (hKernelIdeal := hKernelIdeal) (hPre_in_range := hPre_in_range)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S8192x64 : Shape := ⟨2, ![8192, 64]⟩
abbrev S1024x16 : Shape := ⟨2, ![1024, 16]⟩
abbrev S6x64x1 : Shape := ⟨3, ![6, 64, 1]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_arg1 : FVec F S8192x64 .f32) (main_v14 : IVec S_ 1) (main_v15 : FVec F S8192x64 .f32) : IVec S_ 1 :=
  let main_cst : FVec F S_ .f32 := constant S_ .f32 0x7F800000#32
  let main_v16 : FVec F S8192x64 .f32 := broadcastInDim S8192x64 ![] bcast_S_S8192x64 main_cst
  let main_v17 : IVec S8192x64 1 := cmpf .olt main_v15 main_v16
  let main_c_7 : IVec S_ 1 := constantI S_ 1 1#1
  let main_v18 : IVec S_ 1 := (fun x v => Host.reduce IntOp.andi x v reducesTo_S8192x64_S_d0_1 h_S_) main_v17 main_c_7
  let main_v19 : IVec S_ 1 := andi main_v14 main_v18
  let main_v20 : FVec F S8192x64 .f32 := Host.absf main_arg1
  let main_cst_8 : FVec F S_ .f32 := constant S_ .f32 0x7F800000#32
  let main_v21 : FVec F S8192x64 .f32 := broadcastInDim S8192x64 ![] bcast_S_S8192x64 main_cst_8
  let main_v22 : IVec S8192x64 1 := cmpf .olt main_v20 main_v21
  let main_c_9 : IVec S_ 1 := constantI S_ 1 1#1
  let main_v23 : IVec S_ 1 := (fun x v => Host.reduce IntOp.andi x v reducesTo_S8192x64_S_d0_1 h_S_) main_v22 main_c_9
  let main_v24 : IVec S_ 1 := andi main_v19 main_v23
  main_v24

def fn {F : FTy → Type} [FloatOps F] (main_arg0 : FVec F S8192x64 .f32) (main_arg1 : FVec F S8192x64 .f32) (main_arg2 : IVec S1024x16 32) (main_arg3 : IVec S1024x16 32) (main_arg4 : FVec F S6x64x1 .f32) (main_arg5 : FVec F S6x64x1 .f32) : IVec S_ 1 :=
  let main_c : IVec S_ 32 := constantI S_ 32 0#32
  let main_v0 : IVec S1024x16 32 := broadcastInDim S1024x16 ![] bcast_S_S1024x16 main_c
  let main_v1 : IVec S1024x16 1 := cmpi .sge main_arg2 main_v0
  let main_c_0 : IVec S_ 1 := constantI S_ 1 1#1
  let main_v2 : IVec S_ 1 := (fun x v => Host.reduce IntOp.andi x v reducesTo_S1024x16_S_d0_1 h_S_) main_v1 main_c_0
  let main_c_1 : IVec S_ 32 := constantI S_ 32 8192#32
  let main_v3 : IVec S1024x16 32 := broadcastInDim S1024x16 ![] bcast_S_S1024x16 main_c_1
  let main_v4 : IVec S1024x16 1 := cmpi .slt main_arg2 main_v3
  let main_c_2 : IVec S_ 1 := constantI S_ 1 1#1
  let main_v5 : IVec S_ 1 := (fun x v => Host.reduce IntOp.andi x v reducesTo_S1024x16_S_d0_1 h_S_) main_v4 main_c_2
  let main_v6 : IVec S_ 1 := andi main_v2 main_v5
  let main_c_3 : IVec S_ 32 := constantI S_ 32 0#32
  let main_v7 : IVec S1024x16 32 := broadcastInDim S1024x16 ![] bcast_S_S1024x16 main_c_3
  let main_v8 : IVec S1024x16 1 := cmpi .sge main_arg3 main_v7
  let main_c_4 : IVec S_ 1 := constantI S_ 1 1#1
  let main_v9 : IVec S_ 1 := (fun x v => Host.reduce IntOp.andi x v reducesTo_S1024x16_S_d0_1 h_S_) main_v8 main_c_4
  let main_v10 : IVec S_ 1 := andi main_v6 main_v9
  let main_c_5 : IVec S_ 32 := constantI S_ 32 8192#32
  let main_v11 : IVec S1024x16 32 := broadcastInDim S1024x16 ![] bcast_S_S1024x16 main_c_5
  let main_v12 : IVec S1024x16 1 := cmpi .slt main_arg3 main_v11
  let main_c_6 : IVec S_ 1 := constantI S_ 1 1#1
  let main_v13 : IVec S_ 1 := (fun x v => Host.reduce IntOp.andi x v reducesTo_S1024x16_S_d0_1 h_S_) main_v12 main_c_6
  let main_v14 : IVec S_ 1 := andi main_v10 main_v13
  let main_v15 : FVec F S8192x64 .f32 := Host.absf main_arg0
  fn_part1 (F := F) main_arg1 main_v14 main_v15
-- ==== Pre_in_range.lean ====
abbrev S8192x64 : Shape := ⟨2, ![8192, 64]⟩
abbrev S1024x16 : Shape := ⟨2, ![1024, 16]⟩
abbrev S6x64x1 : Shape := ⟨3, ![6, 64, 1]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel

variable [Facts]

def fn {F : FTy → Type} [FloatOps F] (main_arg0 : FVec F S8192x64 .f32) (main_arg1 : FVec F S8192x64 .f32) (main_arg2 : IVec S1024x16 32) (main_arg3 : IVec S1024x16 32) (main_arg4 : FVec F S6x64x1 .f32) (main_arg5 : FVec F S6x64x1 .f32) : IVec S_ 1 :=
  let main_c : IVec S_ 32 := constantI S_ 32 0#32
  let main_v0 : IVec S1024x16 32 := broadcastInDim S1024x16 ![] bcast_S_S1024x16 main_c
  let main_v1 : IVec S1024x16 1 := cmpi .sge main_arg2 main_v0
  let main_c_0 : IVec S_ 1 := constantI S_ 1 1#1
  let main_v2 : IVec S_ 1 := (fun x v => Host.reduce IntOp.andi x v reducesTo_S1024x16_S_d0_1 h_S_) main_v1 main_c_0
  let main_c_1 : IVec S_ 32 := constantI S_ 32 8192#32
  let main_v3 : IVec S1024x16 32 := broadcastInDim S1024x16 ![] bcast_S_S1024x16 main_c_1
  let main_v4 : IVec S1024x16 1 := cmpi .slt main_arg2 main_v3
  let main_c_2 : IVec S_ 1 := constantI S_ 1 1#1
  let main_v5 : IVec S_ 1 := (fun x v => Host.reduce IntOp.andi x v reducesTo_S1024x16_S_d0_1 h_S_) main_v4 main_c_2
  let main_v6 : IVec S_ 1 := andi main_v2 main_v5
  let main_c_3 : IVec S_ 32 := constantI S_ 32 0#32
  let main_v7 : IVec S1024x16 32 := broadcastInDim S1024x16 ![] bcast_S_S1024x16 main_c_3
  let main_v8 : IVec S1024x16 1 := cmpi .sge main_arg3 main_v7
  let main_c_4 : IVec S_ 1 := constantI S_ 1 1#1
  let main_v9 : IVec S_ 1 := (fun x v => Host.reduce IntOp.andi x v reducesTo_S1024x16_S_d0_1 h_S_) main_v8 main_c_4
  let main_v10 : IVec S_ 1 := andi main_v6 main_v9
  let main_c_5 : IVec S_ 32 := constantI S_ 32 8192#32
  let main_v11 : IVec S1024x16 32 := broadcastInDim S1024x16 ![] bcast_S_S1024x16 main_c_5
  let main_v12 : IVec S1024x16 1 := cmpi .slt main_arg3 main_v11
  let main_c_6 : IVec S_ 1 := constantI S_ 1 1#1
  let main_v13 : IVec S_ 1 := (fun x v => Host.reduce IntOp.andi x v reducesTo_S1024x16_S_d0_1 h_S_) main_v12 main_c_6
  let main_v14 : IVec S_ 1 := andi main_v10 main_v13
  main_v14
-- ==== Kernel.lean ====
abbrev S8192x64 : Shape := ⟨2, ![8192, 64]⟩
abbrev S1024x16 : Shape := ⟨2, ![1024, 16]⟩
abbrev S6x64x1 : Shape := ⟨3, ![6, 64, 1]⟩
abbrev S16384x64 : Shape := ⟨2, ![16384, 64]⟩
abbrev S1x6x64 : Shape := ⟨3, ![1, 6, 64]⟩
abbrev S2x6x64 : Shape := ⟨3, ![2, 6, 64]⟩
abbrev S512x64 : Shape := ⟨2, ![512, 64]⟩
abbrev S1x1x64 : Shape := ⟨3, ![1, 1, 64]⟩
abbrev S1x64 : Shape := ⟨2, ![1, 64]⟩
abbrev S1 : Shape := ⟨1, ![1]⟩
abbrev S1x1x1 : Shape := ⟨3, ![1, 1, 1]⟩
abbrev S512x1 : Shape := ⟨2, ![512, 1]⟩
abbrev S512 : Shape := ⟨1, ![512]⟩
abbrev S16384x128 : Shape := ⟨2, ![16384, 128]⟩
abbrev S256x64 : Shape := ⟨2, ![256, 64]⟩
abbrev S256x128 : Shape := ⟨2, ![256, 128]⟩
abbrev S256x8192 : Shape := ⟨2, ![256, 8192]⟩
abbrev S64x128 : Shape := ⟨2, ![64, 128]⟩
abbrev S64x64 : Shape := ⟨2, ![64, 64]⟩
abbrev S64x32 : Shape := ⟨2, ![64, 32]⟩
abbrev S64x16 : Shape := ⟨2, ![64, 16]⟩
abbrev S64x8 : Shape := ⟨2, ![64, 8]⟩
abbrev S64x4 : Shape := ⟨2, ![64, 4]⟩
abbrev S64x2 : Shape := ⟨2, ![64, 2]⟩
abbrev S64x1 : Shape := ⟨2, ![64, 1]⟩
abbrev S256x1 : Shape := ⟨2, ![256, 1]⟩
abbrev S256x63 : Shape := ⟨2, ![256, 63]⟩
abbrev S32x4x128 : Shape := ⟨3, ![32, 4, 128]⟩
abbrev S_ : Shape := ⟨0, ![]⟩
abbrev S32x512x128 : Shape := ⟨3, ![32, 512, 128]⟩
abbrev S4x128 : Shape := ⟨2, ![4, 128]⟩
abbrev S512x128 : Shape := ⟨2, ![512, 128]⟩
abbrev S1x4x128 : Shape := ⟨3, ![1, 4, 128]⟩
abbrev S128x128 : Shape := ⟨2, ![128, 128]⟩
abbrev S1x128 : Shape := ⟨2, ![1, 128]⟩
abbrev S128 : Shape := ⟨1, ![128]⟩
abbrev S1x512x128 : Shape := ⟨3, ![1, 512, 128]⟩
abbrev S2048x128 : Shape := ⟨2, ![2048, 128]⟩
abbrev S128x16 : Shape := ⟨2, ![128, 16]⟩
abbrev S128x16x128 : Shape := ⟨3, ![128, 16, 128]⟩
abbrev S128x16x64 : Shape := ⟨3, ![128, 16, 64]⟩
abbrev S128x16x1 : Shape := ⟨3, ![128, 16, 1]⟩
abbrev S128x1x64 : Shape := ⟨3, ![128, 1, 64]⟩
abbrev S128x1 : Shape := ⟨2, ![128, 1]⟩

abbrev nBuf : Table → Nat
  | .hbm => 23
  | .local .tc .vmem => 20
  | .local .scVector .vmem => 3
  | _ => 0

abbrev bufTy : (tb : Table) → Fin (nBuf tb) → BufTy
  | .hbm, ⟨0, _⟩ => ⟨S8192x64, .f32⟩
  | .hbm, ⟨1, _⟩ => ⟨S8192x64, .f32⟩
  | .hbm, ⟨2, _⟩ => ⟨S1024x16, .i32⟩
  | .hbm, ⟨3, _⟩ => ⟨S1024x16, .i32⟩
  | .hbm, ⟨4, _⟩ => ⟨S6x64x1, .f32⟩
  | .hbm, ⟨5, _⟩ => ⟨S6x64x1, .f32⟩
  | .hbm, ⟨6, _⟩ => ⟨S16384x64, .f32⟩
  | .hbm, ⟨7, _⟩ => ⟨S1x6x64, .f32⟩
  | .hbm, ⟨8, _⟩ => ⟨S1x6x64, .f32⟩
  | .hbm, ⟨9, _⟩ => ⟨S2x6x64, .f32⟩
  | .hbm, ⟨10, _⟩ => ⟨S16384x64, .f32⟩
  | .hbm, ⟨11, _⟩ => ⟨S16384x128, .f32⟩
  | .hbm, ⟨12, _⟩ => ⟨S32x4x128, .i32⟩
  | .hbm, ⟨13, _⟩ => ⟨S_, .i32⟩
  | .hbm, ⟨14, _⟩ => ⟨S1024x16, .i32⟩
  | .hbm, ⟨15, _⟩ => ⟨S1024x16, .i32⟩
  | .hbm, ⟨16, _⟩ => ⟨S32x4x128, .i32⟩
  | .hbm, ⟨17, _⟩ => ⟨S32x512x128, .f32⟩
  | .hbm, ⟨18, _⟩ => ⟨S32x512x128, .f32⟩
  | .hbm, ⟨19, _⟩ => ⟨S16384x128, .f32⟩
  | .hbm, ⟨20, _⟩ => ⟨S16384x128, .f32⟩
  | .hbm, ⟨21, _⟩ => ⟨S1024x16, .f32⟩
  | .hbm, ⟨22, _⟩ => ⟨S1024x16, .f32⟩
  | .local .tc .vmem, ⟨0, _⟩ => ⟨S512x64, .f32⟩
  | .local .tc .vmem, ⟨1, _⟩ => ⟨S512x64, .f32⟩
  | .local .tc .vmem, ⟨2, _⟩ => ⟨S1x6x64, .f32⟩
  | .local .tc .vmem, ⟨3, _⟩ => ⟨S1x6x64, .f32⟩
  | .local .tc .vmem, ⟨4, _⟩ => ⟨S512x64, .f32⟩
  | .local .tc .vmem, ⟨5, _⟩ => ⟨S512x64, .f32⟩
  | .local .tc .vmem, ⟨6, _⟩ => ⟨S256x64, .f32⟩
  | .local .tc .vmem, ⟨7, _⟩ => ⟨S256x64, .f32⟩
  | .local .tc .vmem, ⟨8, _⟩ => ⟨S8192x64, .f32⟩
  | .local .tc .vmem, ⟨9, _⟩ => ⟨S8192x64, .f32⟩
  | .local .tc .vmem, ⟨10, _⟩ => ⟨S256x128, .f32⟩
  | .local .tc .vmem, ⟨11, _⟩ => ⟨S256x128, .f32⟩
  | .local .tc .vmem, ⟨12, _⟩ => ⟨S2048x128, .f32⟩
  | .local .tc .vmem, ⟨13, _⟩ => ⟨S2048x128, .f32⟩
  | .local .tc .vmem, ⟨14, _⟩ => ⟨S2048x128, .f32⟩
  | .local .tc .vmem, ⟨15, _⟩ => ⟨S2048x128, .f32⟩
  | .local .tc .vmem, ⟨16, _⟩ => ⟨S128x16, .f32⟩
  | .local .tc .vmem, ⟨17, _⟩ => ⟨S128x16, .f32⟩
  | .local .tc .vmem, ⟨18, _⟩ => ⟨S128x16, .f32⟩
  | .local .tc .vmem, ⟨19, _⟩ => ⟨S128x16, .f32⟩
  | .local .scVector .vmem, ⟨0, _⟩ => ⟨S4x128, .i32⟩
  | .local .scVector .vmem, ⟨1, _⟩ => ⟨S4x128, .i32⟩
  | .local .scVector .vmem, ⟨2, _⟩ => ⟨S512x128, .f32⟩
  | _, _ => ⟨S8192x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v5_scv : Ref sig .scVector := ⟨.hbm, 11, rfl⟩
abbrev main_v6_scv : Ref sig .scVector := ⟨.hbm, 12, rfl⟩
abbrev main_v9_scv : Ref sig .scVector := ⟨.hbm, 16, rfl⟩
abbrev main_v10_0_scv : Ref sig .scVector := ⟨.hbm, 17, rfl⟩
abbrev main_v10_1_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi c1_i32_4 v16
  let c0_i32_5 : BitVec 32 := 0#32
  let c0_i32_6 : BitVec 32 := 0#32
  ![v17.toNat, c0_i32_5.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_90_r0 : BitVec 32 := 0#32
  let c0_i32_91_r0 : BitVec 32 := 0#32
  ![v1.toNat, 0, 0]
def k2_off2 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_90_r2 : BitVec 32 := 0#32
  let c0_i32_91_r2 : BitVec 32 := 0#32
  ![v1.toNat, 0, 0]
abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "least" => some ⊥
  | "tenth" => some ((10⁻¹ : ℝ) : EReal)
  | _ => none
-- ==== ReferenceIdeal.lean ====
abbrev S8192x64 : Shape := ⟨2, ![8192, 64]⟩
abbrev S1024x16 : Shape := ⟨2, ![1024, 16]⟩
abbrev S6x64x1 : Shape := ⟨3, ![6, 64, 1]⟩
abbrev S64x64 : Shape := ⟨2, ![64, 64]⟩
abbrev S_ : Shape := ⟨0, ![]⟩
abbrev S1x64x1 : Shape := ⟨3, ![1, 64, 1]⟩
abbrev S64x1 : Shape := ⟨2, ![64, 1]⟩
abbrev S1x64 : Shape := ⟨2, ![1, 64]⟩
abbrev S1x1 : Shape := ⟨2, ![1, 1]⟩
abbrev S1024x1 : Shape := ⟨2, ![1024, 1]⟩
abbrev S1024 : Shape := ⟨1, ![1024]⟩
abbrev S1024x64 : Shape := ⟨2, ![1024, 64]⟩
abbrev S1024x16x1 : Shape := ⟨3, ![1024, 16, 1]⟩
abbrev S1024x16x64 : Shape := ⟨3, ![1024, 16, 64]⟩
abbrev S1024x1x64 : Shape := ⟨3, ![1024, 1, 64]⟩
abbrev S1024x64x16 : Shape := ⟨3, ![1024, 64, 16]⟩
abbrev S1024x1x16 : Shape := ⟨3, ![1024, 1, 16]⟩
abbrev S8192 : Shape := ⟨1, ![8192]⟩
abbrev S8192x1 : Shape := ⟨2, ![8192, 1]⟩
abbrev S64x8192 : Shape := ⟨2, ![64, 8192]⟩
abbrev S8192x8192 : Shape := ⟨2, ![8192, 8192]⟩
abbrev S8192x10 : Shape := ⟨2, ![8192, 10]⟩

abbrev nBuf : Space → Nat
  | .hbm => 297
  | .vmem => 0
  | .smem => 0
  | _ => 0

abbrev hbmTy0_0 (i : Nat) : BufTy := match i % 128 with
  | 0 => ⟨S8192x64, .f32⟩
  | 1 => ⟨S8192x64, .f32⟩
  | 2 => ⟨S1024x16, .i32⟩
  | 3 => ⟨S1024x16, .i32⟩
  | 4 => ⟨S6x64x1, .f32⟩
  | 5 => ⟨S6x64x1, .f32⟩
  | 6 => ⟨S64x64, .i32⟩
  | 7 => ⟨S64x64, .i32⟩
  | 8 => ⟨S_, .i32⟩
  | 9 => ⟨S64x64, .i32⟩
  | 10 => ⟨S64x64, .i32⟩
  | 11 => ⟨S64x64, .i1⟩
  | 12 => ⟨S64x64, .f32⟩
  | 13 => ⟨S1x64x1, .f32⟩
  | 14 => ⟨S64x1, .f32⟩
  | 15 => ⟨S1x64, .f32⟩
  | 16 => ⟨S64x64, .f32⟩
  | 17 => ⟨S1x64, .f32⟩
  | 18 => ⟨S1x1, .f32⟩
  | 19 => ⟨S64x64, .f32⟩
  | 20 => ⟨S64x64, .f32⟩
  | 21 => ⟨S64x64, .f32⟩
  | 22 => ⟨S8192x64, .f32⟩
  | 23 => ⟨S1x64x1, .f32⟩
  | 24 => ⟨S64x1, .f32⟩
  | 25 => ⟨S1x64, .f32⟩
  | 26 => ⟨S64x64, .f32⟩
  | 27 => ⟨S1x64, .f32⟩
  | 28 => ⟨S1x1, .f32⟩
  | 29 => ⟨S64x64, .f32⟩
  | 30 => ⟨S64x64, .f32⟩
  | 31 => ⟨S64x64, .f32⟩
  | 32 => ⟨S8192x64, .f32⟩
  | 33 => ⟨S1x64x1, .f32⟩
  | 34 => ⟨S64x1, .f32⟩
  | 35 => ⟨S1x64, .f32⟩
  | 36 => ⟨S64x64, .f32⟩
  | 37 => ⟨S1x64, .f32⟩
  | 38 => ⟨S1x1, .f32⟩
  | 39 => ⟨S64x64, .f32⟩
  | 40 => ⟨S64x64, .f32⟩
  | 41 => ⟨S64x64, .f32⟩
  | 42 => ⟨S8192x64, .f32⟩
  | 43 => ⟨S1x64x1, .f32⟩
  | 44 => ⟨S64x1, .f32⟩
  | 45 => ⟨S1x64, .f32⟩
  | 46 => ⟨S64x64, .f32⟩
  | 47 => ⟨S1x64, .f32⟩
  | 48 => ⟨S1x1, .f32⟩
  | 49 => ⟨S64x64, .f32⟩
  | 50 => ⟨S64x64, .f32⟩
  | 51 => ⟨S64x64, .f32⟩
  | 52 => ⟨S8192x64, .f32⟩
  | 53 => ⟨S1x64x1, .f32⟩
  | 54 => ⟨S64x1, .f32⟩
  | 55 => ⟨S1x64, .f32⟩
  | 56 => ⟨S64x64, .f32⟩
  | 57 => ⟨S1x64, .f32⟩
  | 58 => ⟨S1x1, .f32⟩
  | 59 => ⟨S64x64, .f32⟩
  | 60 => ⟨S64x64, .f32⟩
  | 61 => ⟨S64x64, .f32⟩
  | 62 => ⟨S8192x64, .f32⟩
  | 63 => ⟨S1x64x1, .f32⟩
  | 64 => ⟨S64x1, .f32⟩
  | 65 => ⟨S1x64, .f32⟩
  | 66 => ⟨S64x64, .f32⟩
  | 67 => ⟨S1x64, .f32⟩
  | 68 => ⟨S1x1, .f32⟩
  | 69 => ⟨S64x64, .f32⟩
  | 70 => ⟨S64x64, .f32⟩
  | 71 => ⟨S64x64, .f32⟩
  | 72 => ⟨S8192x64, .f32⟩
  | 73 => ⟨S64x64, .i32⟩
  | 74 => ⟨S64x64, .i32⟩
  | 75 => ⟨S_, .i32⟩
  | 76 => ⟨S64x64, .i32⟩
  | 77 => ⟨S64x64, .i32⟩
  | 78 => ⟨S64x64, .i1⟩
  | 79 => ⟨S64x64, .f32⟩
  | 80 => ⟨S1x64x1, .f32⟩
  | 81 => ⟨S64x1, .f32⟩
  | 82 => ⟨S1x64, .f32⟩
  | 83 => ⟨S64x64, .f32⟩
  | 84 => ⟨S1x64, .f32⟩
  | 85 => ⟨S1x1, .f32⟩
  | 86 => ⟨S64x64, .f32⟩
  | 87 => ⟨S64x64, .f32⟩
  | 88 => ⟨S64x64, .f32⟩
  | 89 => ⟨S8192x64, .f32⟩
  | 90 => ⟨S1x64x1, .f32⟩
  | 91 => ⟨S64x1, .f32⟩
  | 92 => ⟨S1x64, .f32⟩
  | 93 => ⟨S64x64, .f32⟩
  | 94 => ⟨S1x64, .f32⟩
  | 95 => ⟨S1x1, .f32⟩
  | 96 => ⟨S64x64, .f32⟩
  | 97 => ⟨S64x64, .f32⟩
  | 98 => ⟨S64x64, .f32⟩
  | 99 => ⟨S8192x64, .f32⟩
  | 100 => ⟨S1x64x1, .f32⟩
  | 101 => ⟨S64x1, .f32⟩
  | 102 => ⟨S1x64, .f32⟩
  | 103 => ⟨S64x64, .f32⟩
  | 104 => ⟨S1x64, .f32⟩
  | 105 => ⟨S1x1, .f32⟩
  | 106 => ⟨S64x64, .f32⟩
  | 107 => ⟨S64x64, .f32⟩
  | 108 => ⟨S64x64, .f32⟩
  | 109 => ⟨S8192x64, .f32⟩
  | 110 => ⟨S1x64x1, .f32⟩
  | 111 => ⟨S64x1, .f32⟩
  | 112 => ⟨S1x64, .f32⟩
  | 113 => ⟨S64x64, .f32⟩
  | 114 => ⟨S1x64, .f32⟩
  | 115 => ⟨S1x1, .f32⟩
  | 116 => ⟨S64x64, .f32⟩
  | 117 => ⟨S64x64, .f32⟩
  | 118 => ⟨S64x64, .f32⟩
  | 119 => ⟨S8192x64, .f32⟩
  | 120 => ⟨S1x64x1, .f32⟩
  | 121 => ⟨S64x1, .f32⟩
  | 122 => ⟨S1x64, .f32⟩
  | 123 => ⟨S64x64, .f32⟩
  | 124 => ⟨S1x64, .f32⟩
  | 125 => ⟨S1x1, .f32⟩
  | 126 => ⟨S64x64, .f32⟩
  | 127 => ⟨S64x64, .f32⟩
  | _ => ⟨S8192x64, .f32⟩

abbrev hbmTy0_1 (i : Nat) : BufTy := match i % 128 with
  | 0 => ⟨S64x64, .f32⟩
  | 1 => ⟨S8192x64, .f32⟩
  | 2 => ⟨S1x64x1, .f32⟩
  | 3 => ⟨S64x1, .f32⟩
  | 4 => ⟨S1x64, .f32⟩
  | 5 => ⟨S64x64, .f32⟩
  | 6 => ⟨S1x64, .f32⟩
  | 7 => ⟨S1x1, .f32⟩
  | 8 => ⟨S64x64, .f32⟩
  | 9 => ⟨S64x64, .f32⟩
  | 10 => ⟨S64x64, .f32⟩
  | 11 => ⟨S8192x64, .f32⟩
  | 12 => ⟨S1024x1, .i32⟩
  | 13 => ⟨S1024, .i32⟩
  | 14 => ⟨S_, .i32⟩
  | 15 => ⟨S1024, .i32⟩
  | 16 => ⟨S1024, .i1⟩
  | 17 => ⟨S_, .i32⟩
  | 18 => ⟨S1024, .i32⟩
  | 19 => ⟨S1024, .i32⟩
  | 20 => ⟨S1024, .i32⟩
  | 21 => ⟨S1024x1, .i32⟩
  | 22 => ⟨S1024x64, .f32⟩
  | 23 => ⟨S1024x1, .i32⟩
  | 24 => ⟨S1024, .i32⟩
  | 25 => ⟨S_, .i32⟩
  | 26 => ⟨S1024, .i32⟩
  | 27 => ⟨S1024, .i1⟩
  | 28 => ⟨S_, .i32⟩
  | 29 => ⟨S1024, .i32⟩
  | 30 => ⟨S1024, .i32⟩
  | 31 => ⟨S1024, .i32⟩
  | 32 => ⟨S1024x1, .i32⟩
  | 33 => ⟨S1024x64, .f32⟩
  | 34 => ⟨S_, .i32⟩
  | 35 => ⟨S1024x16, .i32⟩
  | 36 => ⟨S1024x16, .i1⟩
  | 37 => ⟨S_, .i32⟩
  | 38 => ⟨S1024x16, .i32⟩
  | 39 => ⟨S1024x16, .i32⟩
  | 40 => ⟨S1024x16, .i32⟩
  | 41 => ⟨S1024x16x1, .i32⟩
  | 42 => ⟨S1024x16x64, .f32⟩
  | 43 => ⟨S_, .i32⟩
  | 44 => ⟨S1024x16, .i32⟩
  | 45 => ⟨S1024x16, .i1⟩
  | 46 => ⟨S_, .i32⟩
  | 47 => ⟨S1024x16, .i32⟩
  | 48 => ⟨S1024x16, .i32⟩
  | 49 => ⟨S1024x16, .i32⟩
  | 50 => ⟨S1024x16x1, .i32⟩
  | 51 => ⟨S1024x16x64, .f32⟩
  | 52 => ⟨S1024x64, .f32⟩
  | 53 => ⟨S_, .f32⟩
  | 54 => ⟨S1024, .f32⟩
  | 55 => ⟨S1024x1, .f32⟩
  | 56 => ⟨S1024x1, .f32⟩
  | 57 => ⟨S_, .f32⟩
  | 58 => ⟨S1024x1, .f32⟩
  | 59 => ⟨S1024x1, .f32⟩
  | 60 => ⟨S1024x64, .f32⟩
  | 61 => ⟨S1024x64, .f32⟩
  | 62 => ⟨S1024x16x64, .f32⟩
  | 63 => ⟨S_, .f32⟩
  | 64 => ⟨S1024x16, .f32⟩
  | 65 => ⟨S1024x16x1, .f32⟩
  | 66 => ⟨S1024x16x1, .f32⟩
  | 67 => ⟨S_, .f32⟩
  | 68 => ⟨S1024x16x1, .f32⟩
  | 69 => ⟨S1024x16x1, .f32⟩
  | 70 => ⟨S1024x16x64, .f32⟩
  | 71 => ⟨S1024x16x64, .f32⟩
  | 72 => ⟨S1024x1x64, .f32⟩
  | 73 => ⟨S1024x64x16, .f32⟩
  | 74 => ⟨S1024x1x16, .f32⟩
  | 75 => ⟨S1024x64, .f32⟩
  | 76 => ⟨S_, .f32⟩
  | 77 => ⟨S1024, .f32⟩
  | 78 => ⟨S1024x1, .f32⟩
  | 79 => ⟨S1024x1, .f32⟩
  | 80 => ⟨S_, .f32⟩
  | 81 => ⟨S1024x1, .f32⟩
  | 82 => ⟨S1024x1, .f32⟩
  | 83 => ⟨S1024x64, .f32⟩
  | 84 => ⟨S1024x64, .f32⟩
  | 85 => ⟨S1024x16x64, .f32⟩
  | 86 => ⟨S_, .f32⟩
  | 87 => ⟨S1024x16, .f32⟩
  | 88 => ⟨S1024x16x1, .f32⟩
  | 89 => ⟨S1024x16x1, .f32⟩
  | 90 => ⟨S_, .f32⟩
  | 91 => ⟨S1024x16x1, .f32⟩
  | 92 => ⟨S1024x16x1, .f32⟩
  | 93 => ⟨S1024x16x64, .f32⟩
  | 94 => ⟨S1024x16x64, .f32⟩
  | 95 => ⟨S1024x1x64, .f32⟩
  | 96 => ⟨S1024x64x16, .f32⟩
  | 97 => ⟨S1024x1x16, .f32⟩
  | 98 => ⟨S8192x64, .f32⟩
  | 99 => ⟨S_, .f32⟩
  | 100 => ⟨S8192, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x64, .f32⟩
  | 107 => ⟨S8192x64, .f32⟩
  | 108 => ⟨S8192x64, .f32⟩
  | 109 => ⟨S_, .f32⟩
  | 110 => ⟨S8192, .f32⟩
  | 111 => ⟨S8192x1, .f32⟩
  | 112 => ⟨S8192x1, .f32⟩
  | 113 => ⟨S_, .f32⟩
  | 114 => ⟨S8192x1, .f32⟩
  | 115 => ⟨S8192x1, .f32⟩
  | 116 => ⟨S8192x64, .f32⟩
  | 117 => ⟨S8192x64, .f32⟩
  | 118 => ⟨S64x8192, .f32⟩
  | 119 => ⟨S8192x8192, .f32⟩
  | 120 => ⟨S8192x10, .f32⟩
  | 121 => ⟨S8192x10, .i32⟩
  | 122 => ⟨S_, .f32⟩
  | 123 => ⟨S8192, .f32⟩
  | 124 => ⟨S_, .f32⟩
  | 125 => ⟨S8192, .f32⟩
  | 126 => ⟨S8192, .f32⟩
  | 127 => ⟨S8192x8192, .f32⟩
  | _ => ⟨S8192x64, .f32⟩

abbrev hbmTy0_2 (i : Nat) : BufTy := match i % 128 with
  | 0 => ⟨S8192x10, .f32⟩
  | 1 => ⟨S8192x10, .i32⟩
  | 2 => ⟨S_, .f32⟩
  | 3 => ⟨S8192, .f32⟩
  | 4 => ⟨S_, .f32⟩
  | 5 => ⟨S8192, .f32⟩
  | 6 => ⟨S8192, .f32⟩
  | 7 => ⟨S_, .i32⟩
  | 8 => ⟨S1024x16, .i32⟩
  | 9 => ⟨S1024x16, .i1⟩
  | 10 => ⟨S_, .i32⟩
  | 11 => ⟨S1024x16, .i32⟩
  | 12 => ⟨S1024x16, .i32⟩
  | 13 => ⟨S1024x16, .i32⟩
  | 14 => ⟨S1024x16x1, .i32⟩
  | 15 => ⟨S1024x16, .f32⟩
  | 16 => ⟨S_, .i32⟩
  | 17 => ⟨S1024x16, .i32⟩
  | 18 => ⟨S1024x16, .i1⟩
  | 19 => ⟨S_, .i32⟩
  | 20 => ⟨S1024x16, .i32⟩
  | 21 => ⟨S1024x16, .i32⟩
  | 22 => ⟨S1024x16, .i32⟩
  | 23 => ⟨S1024x16x1, .i32⟩
  | 24 => ⟨S1024x16, .f32⟩
  | 25 => ⟨S1024x16, .f32⟩
  | 26 => ⟨S_, .f32⟩
  | 27 => ⟨S1024x16, .f32⟩
  | 28 => ⟨S1024x16, .f32⟩
  | 29 => ⟨S1024x1, .f32⟩
  | 30 => ⟨S1024x16, .f32⟩
  | 31 => ⟨S1024x16, .f32⟩
  | 32 => ⟨S1024x16, .f32⟩
  | 33 => ⟨S1024x16, .f32⟩
  | 34 => ⟨S_, .f32⟩
  | 35 => ⟨S1024x16, .f32⟩
  | 36 => ⟨S1024x16, .f32⟩
  | 37 => ⟨S1024x1, .f32⟩
  | 38 => ⟨S1024x16, .f32⟩
  | 39 => ⟨S1024x16, .f32⟩
  | 40 => ⟨S1024x16, .f32⟩
  | _ => ⟨S8192x64, .f32⟩

abbrev hbmTy (i : Nat) : BufTy := match i / 128 with
  | 0 => hbmTy0_0 i
  | 1 => hbmTy0_1 i
  | 2 => hbmTy0_2 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_c_0 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_c_1 : Ref sig .tc := ⟨.hbm, 142, rfl⟩
abbrev main_v134 : Ref sig .tc := ⟨.hbm, 143, rfl⟩
abbrev main_v135 : Ref sig .tc := ⟨.hbm, 144, rfl⟩
abbrev main_c_2 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_c_3 : Ref sig .tc := ⟨.hbm, 153, rfl⟩
abbrev main_v143 : Ref sig .tc := ⟨.hbm, 154, rfl⟩
abbrev main_v144 : Ref sig .tc := ⟨.hbm, 155, rfl⟩
abbrev main_c_4 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_c_5 : Ref sig .tc := ⟨.hbm, 162, rfl⟩
abbrev main_v150 : Ref sig .tc := ⟨.hbm, 163, rfl⟩
abbrev main_v151 : Ref sig .tc := ⟨.hbm, 164, rfl⟩
abbrev main_c_6 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_c_7 : Ref sig .tc := ⟨.hbm, 171, rfl⟩
abbrev main_v157 : Ref sig .tc := ⟨.hbm, 172, rfl⟩
abbrev main_v158 : Ref sig .tc := ⟨.hbm, 173, rfl⟩
abbrev main_c_8 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_call0_v0 : Ref sig .tc := ⟨.hbm, 180, rfl⟩
abbrev main_call0_cst : Ref sig .tc := ⟨.hbm, 181, rfl⟩
abbrev main_call0_v1 : Ref sig .tc := ⟨.hbm, 182, rfl⟩
abbrev main_call0_v2 : Ref sig .tc := ⟨.hbm, 183, rfl⟩
abbrev main_v164 : Ref sig .tc := ⟨.hbm, 184, rfl⟩
abbrev main_cst : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_call1_v0 : Ref sig .tc := ⟨.hbm, 190, rfl⟩
abbrev main_call1_cst : Ref sig .tc := ⟨.hbm, 191, rfl⟩
abbrev main_call1_v1 : Ref sig .tc := ⟨.hbm, 192, rfl⟩
abbrev main_call1_v2 : Ref sig .tc := ⟨.hbm, 193, rfl⟩
abbrev main_v169 : Ref sig .tc := ⟨.hbm, 194, rfl⟩
abbrev main_cst_9 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_call2_v0 : Ref sig .tc := ⟨.hbm, 203, rfl⟩
abbrev main_call2_cst : Ref sig .tc := ⟨.hbm, 204, rfl⟩
abbrev main_call2_v1 : Ref sig .tc := ⟨.hbm, 205, rfl⟩
abbrev main_call2_v2 : Ref sig .tc := ⟨.hbm, 206, rfl⟩
abbrev main_v177 : Ref sig .tc := ⟨.hbm, 207, rfl⟩
abbrev main_cst_10 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_call3_v0 : Ref sig .tc := ⟨.hbm, 213, rfl⟩
abbrev main_call3_cst : Ref sig .tc := ⟨.hbm, 214, rfl⟩
abbrev main_call3_v1 : Ref sig .tc := ⟨.hbm, 215, rfl⟩
abbrev main_call3_v2 : Ref sig .tc := ⟨.hbm, 216, rfl⟩
abbrev main_v182 : Ref sig .tc := ⟨.hbm, 217, rfl⟩
abbrev main_cst_11 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_call4_v0 : Ref sig .tc := ⟨.hbm, 226, rfl⟩
abbrev main_call4_cst : Ref sig .tc := ⟨.hbm, 227, rfl⟩
abbrev main_call4_v1 : Ref sig .tc := ⟨.hbm, 228, rfl⟩
abbrev main_call4_v2 : Ref sig .tc := ⟨.hbm, 229, rfl⟩
abbrev main_v190 : Ref sig .tc := ⟨.hbm, 230, rfl⟩
abbrev main_cst_12 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_call5_v0 : Ref sig .tc := ⟨.hbm, 236, rfl⟩
abbrev main_call5_cst : Ref sig .tc := ⟨.hbm, 237, rfl⟩
abbrev main_call5_v1 : Ref sig .tc := ⟨.hbm, 238, rfl⟩
abbrev main_call5_v2 : Ref sig .tc := ⟨.hbm, 239, rfl⟩
abbrev main_v195 : Ref sig .tc := ⟨.hbm, 240, rfl⟩
abbrev main_cst_13 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_values : Ref sig .tc := ⟨.hbm, 248, rfl⟩
abbrev main_indices : Ref sig .tc := ⟨.hbm, 249, rfl⟩
abbrev main_cst_14 : Ref sig .tc := ⟨.hbm, 250, rfl⟩
abbrev main_v202 : Ref sig .tc := ⟨.hbm, 251, rfl⟩
abbrev main_cst_15 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_values_16 : Ref sig .tc := ⟨.hbm, 256, rfl⟩
abbrev main_indices_17 : Ref sig .tc := ⟨.hbm, 257, rfl⟩
abbrev main_cst_18 : Ref sig .tc := ⟨.hbm, 258, rfl⟩
abbrev main_v206 : Ref sig .tc := ⟨.hbm, 259, rfl⟩
abbrev main_cst_19 : Ref sig .tc := ⟨.hbm, 260, rfl⟩
abbrev main_v207 : Ref sig .tc := ⟨.hbm, 261, rfl⟩
abbrev main_v208 : Ref sig .tc := ⟨.hbm, 262, rfl⟩
abbrev main_c_20 : Ref sig .tc := ⟨.hbm, 263, rfl⟩
abbrev main_v209 : Ref sig .tc := ⟨.hbm, 264, rfl⟩
abbrev main_v210 : Ref sig .tc := ⟨.hbm, 265, rfl⟩
abbrev main_c_21 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_c_22 : Ref sig .tc := ⟨.hbm, 272, rfl⟩
abbrev main_v216 : Ref sig .tc := ⟨.hbm, 273, rfl⟩
abbrev main_v217 : Ref sig .tc := ⟨.hbm, 274, rfl⟩
abbrev main_c_23 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_cst_24 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_cst_25 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩

abbrev nD : Nat := 1
abbrev τ : Topo := Topo.v7x

variable {F : FTy → Type} [FloatOps F]
-- ==== Proof.BitsTailRun.lean ====
/-
  The TensorCore pipeline that follows the SparseCore call, one grid point at a time: from a block of gathered source
  rows and the block of gathered target rows, both staged, the body fills the two result blocks. Here: what the run of
  the body leaves, as the two payloads the body stores, at the blocks it loaded.
-/
module

public import proofs.«01_k».proof.Proof.BitsScTile
public import Idealize.ShloMosaic.Lib.Pipeline.ValueKit
public import Idealize.ShloMosaic.Lib.VecWindow

@[expose] public section

set_option maxRecDepth 16384

noncomputable section

namespace Cert.Proof.B

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-- From the two staged blocks and any contents of the two result buffers, the body runs to its end with the staged
    blocks as they were and the results at the two payloads. -/
theorem tail_run (d : Dev nD) (i : grid3.Coords)
    (M0 : Memref sig .tc .vmem S2048x128 .f32) (h0 : M0.IsWhole) (M1 : Memref sig .tc .vmem S2048x128 .f32) (h1 : M1.IsWhole)
    (M2 : Memref sig .tc .vmem S128x16 .f32) (h2 : M2.IsWhole) (M3 : Memref sig .tc .vmem S128x16 .f32) (h3 : M3.IsWhole)
    (X0 X1 : S2048x128.Idx → Elt F .f32) (Y2 Y3 : S128x16.Idx → Elt F .f32) (Q : PUnit → sProp 𝕄) :
    (iprop(owns (d : Thread nD τ) M0 fullShare X0 ∗ owns (d : Thread nD τ) M1 fullShare X1
        ∗ owns (d : Thread nD τ) M2 fullShare Y2 ∗ owns (d : Thread nD τ) M3 fullShare Y3
        ∗ (iprop(owns (d : Thread nD τ) M0 fullShare X0 ∗ owns (d : Thread nD τ) M1 fullShare X1
          ∗ owns (d : Thread nD τ) M2 fullShare (k3_pay5 X0 X1) ∗ owns (d : Thread nD τ) M3 fullShare (k3_pay6 X0 X1)) -∗ Q ⟨⟩)) : sProp 𝕄)
      ⊢ wp (M := 𝕄) frame (wpE (defs₀ (F := F)) 𝒱₀ (d : Thread nD τ) none) Set.univ (cc3__tail_body i M0 h0 M1 h1 M2 h2 M3 h3) Q := by
  unfold owns
  rw [h0.set_eq_univ, h1.set_eq_univ, h2.set_eq_univ, h3.set_eq_univ]
  iintro ⟨⟨%f0, %e0, H0⟩, ⟨%f1, %e1, H1⟩, ⟨%f2, -, H2⟩, ⟨%f3, -, H3⟩, Hk⟩
  subst e0 e1
  simp only [cc3__tail_body_eq_skeleton]; unfold cc3__tail_body_skel
  sl_exec
  sl_step
  iapply Hk
  isplitl [H0]; · iexists _; isplitr; swap; · iexact H0
                  ipureintro; rfl
  isplitl [H1]; · iexists _; isplitr; swap; · iexact H1
                  ipureintro; rfl
  isplitl [H2]
  · iexists _; isplitr; swap; · iexact H2
    ipureintro
    frame_out
    exact View.read_writes_full (s := S128x16) M2.view f2 inb_S128x16_S128x16_0_0 _ _
  iexists _; isplitr; swap; · iexact H3
  ipureintro
  frame_out
  exact View.read_writes_full (s := S128x16) M3.view f3 inb_S128x16_S128x16_0_0 _ _

end Cert.Proof.B

end
-- ==== Proof.BitsTopRun.lean ====
/-
  The second TensorCore pipeline, one grid point at a time: from a block of normalised rows and all the normalised rows
  of the other half, both staged, the body fills the result block. Here: the run of the body as a few array operations
  (`topBody`) leaves the result at `topRows`.
-/
module

public import proofs.«01_k».proof.Proof.BitsScTile
public import proofs.«01_k».proof.Proof.BitsTopSpec
public import Idealize.ShloMosaic.Lib.Pipeline.ValueKit
public import Idealize.ShloMosaic.Lib.VecWindow

@[expose] public section

set_option maxRecDepth 16384

noncomputable section

namespace Cert.Proof.B

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

/-- What the body stores, from the two staged blocks. -/
def topBlk (X : Vec F S256x64 .f32) (Y : Vec F S8192x64 .f32) : FVec F S256x128 .f32 := topRows (k1_pay2 X Y) X

/-- From the two staged blocks and any contents of the result's buffer, the body runs to its end with the staged blocks as
    they were, and the result at the payload. -/
theorem topBody_run (d : Dev nD)
    (M0 : Memref sig .tc .vmem S256x64 .f32) (h0 : M0.IsWhole) (M1 : Memref sig .tc .vmem S8192x64 .f32) (h1 : M1.IsWhole)
    (M2 : Memref sig .tc .vmem S256x128 .f32) (h2 : M2.IsWhole)
    (X0 : S256x64.Idx → Elt F .f32) (X1 : S8192x64.Idx → Elt F .f32) (Y2 : S256x128.Idx → Elt F .f32) (Q : PUnit → sProp 𝕄) :
    (iprop(owns (d : Thread nD τ) M0 fullShare X0 ∗ owns (d : Thread nD τ) M1 fullShare X1 ∗ owns (d : Thread nD τ) M2 fullShare Y2
        ∗ (iprop(owns (d : Thread nD τ) M0 fullShare X0 ∗ owns (d : Thread nD τ) M1 fullShare X1
          ∗ owns (d : Thread nD τ) M2 fullShare (topBlk X0 X1)) -∗ Q ⟨⟩)) : sProp 𝕄)
      ⊢ wp (M := 𝕄) frame (wpE (defs₀ (F := F)) 𝒱₀ (d : Thread nD τ) none) Set.univ (topBody M0 M1 M2) Q := by
  unfold owns
  rw [h0.set_eq_univ, h1.set_eq_univ, h2.set_eq_univ]
  iintro ⟨⟨%f0, %e0, H0⟩, ⟨%f1, %e1, H1⟩, ⟨%f2, -, H2⟩, Hk⟩
  subst e0 e1
  unfold topBody
  sl_exec
  sl_step
  iapply Hk
  isplitl [H0]; · iexists _; isplitr; swap; · iexact H0
                  ipureintro; rfl
  isplitl [H1]; · iexists _; isplitr; swap; · iexact H1
                  ipureintro; rfl
  iexists _; isplitr; swap; · iexact H2
  ipureintro
  frame_out
  refine (View.read_writes_full (s := S256x128) M2.view f2 inb_S256x128_S256x128_0_0 _ _).trans ?_
  unfold topBlk
  simp only [View.readAt_full (s := S256x64), View.readAt_full (s := S8192x64)]

end Cert.Proof.B

end
-- ==== Proof.BitsTopBody.lean ====
/-
  The second TensorCore call's body is the few array operations that TopSpec names: its last stretches, and
  what it writes.
-/
module

public import proofs.«01_k».proof.Proof.BitsTopFirst
public import proofs.«01_k».proof.Proof.BitsTopNext

@[expose] public section

set_option maxRecDepth 65536
set_option maxHeartbeats 0

noncomputable section

namespace Cert.Proof.B

open Cert.Kernel Cert.Kernel.Gen
open Idealize.ShloMosaic Idealize.SL.Sem

variable {F : FTy → Type} [FloatOps F]

theorem body_eq (i : grid1.Coords) (arg1 : Memref sig .tc .vmem S256x64 .f32) (harg1 : arg1.IsWhole)
    (arg2 : Memref sig .tc .vmem S8192x64 .f32) (harg2 : arg2.IsWhole) (arg3 : Memref sig .tc .vmem S256x128 .f32) (harg3 : arg3.IsWhole) :
    cc1__topk_table_body (F := F) i arg1 harg1 arg2 harg2 arg3 harg3 = topBody arg1 arg2 arg3 := by
  unfold cc1__topk_table_body topBody
  rw [first60_eq]
  simp only [bind_assoc, pure_bind]
  refine congrArg (Prog.bind _) (funext fun v => congrArg (Prog.bind _) (funext fun w => ?_))
  generalize k1_pay2 v w = s
  refine step (next60 s) (next60_eq i arg1 harg1 arg2 harg2 arg3 harg3 s) ?_
  refine step (cut3 s 37 (by decide)) rfl ?_
  refine step (cut3 s 40 (by decide)) rfl ?_
  refine step (cut3 s 43 (by decide)) rfl ?_
  refine step (cut3 s 46 (by decide)) rfl ?_
  refine step (cut3 s 49 (by decide)) rfl ?_
  refine step (cut3 s 52 (by decide)) rfl ?_
  refine step (cut3 s 55 (by decide)) rfl ?_
  refine step (cut3 s 58 (by decide)) rfl ?_
  refine step (cut3 s 61 (by decide)) rfl ?_
  refine step (start3 (lev0 s 3 (by decide)) (lo0 s 3 (by decide)) (hi0 s 3 (by decide))) rfl ?_
  refine step (seam3 (lo0 s 3 (by decide)) (hi0 s 3 (by decide))) rfl ?_
  refine step (gap3 (lev1 s 3 (by decide)) (lo1 s 3 (by decide)) (hi1 s 3 (by decide))) rfl ?_
  refine step (seam3 (lo1 s 3 (by decide)) (hi1 s 3 (by decide))) rfl ?_
  refine step (gap3 (lev2 s 3 (by decide)) (lo2 s 3 (by decide)) (hi2 s 3 (by decide))) rfl ?_
  refine step (seam3 (lo2 s 3 (by decide)) (hi2 s 3 (by decide))) rfl ?_
  refine step (gap3 (lev3 s 3 (by decide)) (lo3 s 3 (by decide)) (hi3 s 3 (by decide))) rfl ?_
  refine step (seam3 (lo3 s 3 (by decide)) (hi3 s 3 (by decide))) rfl ?_
  refine step (gap3 (lev4 s 3 (by decide)) (lo4 s 3 (by decide)) (hi4 s 3 (by decide))) rfl ?_
  refine step (seam3 (lo4 s 3 (by decide)) (hi4 s 3 (by decide))) rfl ?_
  refine step (gap3 (lev5 s 3 (by decide)) (lo5 s 3 (by decide)) (hi5 s 3 (by decide))) rfl ?_
  refine step (seam3 (lo5 s 3 (by decide)) (hi5 s 3 (by decide))) rfl ?_
  refine step (gap3 (lev6 s 3 (by decide)) (lo6 s 3 (by decide)) (hi6 s 3 (by decide))) rfl ?_
  refine step (seam3 (lo6 s 3 (by decide)) (hi6 s 3 (by decide))) rfl ?_
  refine step ⟨lev7 s 3 (by decide) 7, lev7 s 3 (by decide) 8, lev7 s 3 (by decide) 9, totalTo (lev7 s 3 (by decide)) 5⟩ rfl ?_
  rfl

end Cert.Proof.B
end
-- ==== Proof.BitsTopCall.lean ====
/-
  The second TensorCore pipeline's own body at a grid point runs as `topBody` does.
-/
module

public import proofs.«01_k».proof.Proof.BitsTopRun
public import proofs.«01_k».proof.Proof.BitsTopBody
public import Idealize.ShloMosaic.Lib.Pipeline.ValueKit
public import Idealize.ShloMosaic.Lib.VecWindow

@[expose] public section

set_option maxRecDepth 16384

noncomputable section

namespace Cert.Proof.B

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F]

local notation "𝕄" => MT nD τ sig (HIx 1) (Elt F) ℕ UU ℕ

theorem topCall_run (d : Dev nD) (i : grid1.Coords)
    (M0 : Memref sig .tc .vmem S256x64 .f32) (h0 : M0.IsWhole) (M1 : Memref sig .tc .vmem S8192x64 .f32) (h1 : M1.IsWhole)
    (M2 : Memref sig .tc .vmem S256x128 .f32) (h2 : M2.IsWhole)
    (X0 : S256x64.Idx → Elt F .f32) (X1 : S8192x64.Idx → Elt F .f32) (Y2 : S256x128.Idx → Elt F .f32) (Q : PUnit → sProp 𝕄) :
    (iprop(owns (d : Thread nD τ) M0 fullShare X0 ∗ owns (d : Thread nD τ) M1 fullShare X1 ∗ owns (d : Thread nD τ) M2 fullShare Y2
        ∗ (iprop(owns (d : Thread nD τ) M0 fullShare X0 ∗ owns (d : Thread nD τ) M1 fullShare X1
          ∗ owns (d : Thread nD τ) M2 fullShare (topBlk X0 X1)) -∗ Q ⟨⟩)) : sProp 𝕄)
      ⊢ wp (M := 𝕄) frame (wpE (defs₀ (F := F)) 𝒱₀ (d : Thread nD τ) none) Set.univ (cc1__topk_table_body i M0 h0 M1 h1 M2 h2) Q := by
  rw [body_eq]; exact topBody_run d M0 h0 M1 h1 M2 h2 X0 X1 Y2 Q

end Cert.Proof.B

end
-- ==== Proof.Range.lean ====
/-
  The preconditions read back: the list entries name rows; and, where the two programs are compared, the features are finite.
-/
module

public import proofs.«01_k».proof.Pre_in_range
public import proofs.«01_k».proof.Proof.Gen.Pre_in_domain
public import Idealize.ShloMosaic.Lib.ReduceAll
public import Idealize.ShloMosaic.Lib.Pipeline.ValueKit

@[expose] public section

namespace Cert.Proof

open Idealize.ShloMosaic Cert.Pre_in_domain Cert.Pre_in_domain.Gen

/-- The shape relations of the first precondition. -/
instance rangeFacts : Cert.Pre_in_range.Facts := ⟨by decide, by decide, by decide⟩

/-- Every entry of the lists names one of 8192 rows. -/
def Bounded (s : IVec S1024x16 32) : Prop := ∀ j, (s j).toNat < 8192

theorem andi_one (a b : BitVec 1) : IntOp.andi a b = 1#1 ↔ a = 1#1 ∧ b = 1#1 := by revert a b; decide

theorem word_bounded (w : BitVec 32) (h0 : IntOp.cmpi .sge w 0#32 = 1#1) (h1 : IntOp.cmpi .slt w 8192#32 = 1#1) : w.toNat < 8192 := by
  have e0 : BitVec.sle 0#32 w = true := by
    by_contra hc
    exact absurd h0 (by show ¬ BitVec.ofBool (BitVec.sle 0#32 w) = 1#1; rw [Bool.eq_false_iff.mpr hc]; decide)
  have e1 : BitVec.slt w 8192#32 = true := by
    by_contra hc
    exact absurd h1 (by show ¬ BitVec.ofBool (BitVec.slt w 8192#32) = 1#1; rw [Bool.eq_false_iff.mpr hc]; decide)
  rw [BitVec.sle_eq_decide, decide_eq_true_eq] at e0
  rw [BitVec.slt_eq_decide, decide_eq_true_eq] at e1
  have h8 : (8192#32).toInt = 8192 := by decide
  have h00 : (0#32).toInt = 0 := by decide
  rw [h8] at e1
  rw [h00] at e0
  rw [BitVec.toInt_eq_toNat_cond] at e0 e1
  split at e1 <;> omega

instance : Subsingleton S_.Idx := ⟨fun a b => funext fun i => i.elim0⟩

theorem bounded_of_pre {F : FTy → Type} [FloatOps F] (a b : FVec F S8192x64 .f32) (s t : IVec S1024x16 32) (v w : FVec F S6x64x1 .f32)
    (h : Cert.Pre_in_range.fn (F := F) a b s t v w = fun _ => 1#1) : Bounded s ∧ Bounded t := by
  have h' := congrFun h (fun i => i.elim0)
  simp only [Cert.Pre_in_range.fn, andi, andi_one] at h'
  obtain ⟨⟨⟨a, b⟩, c⟩, d⟩ := h'
  exact ⟨fun j => word_bounded _ (Host.reduce_andi_all _ _ _ _ _ a j) (Host.reduce_andi_all _ _ _ _ _ b j),
    fun j => word_bounded _ (Host.reduce_andi_all _ _ _ _ _ c j) (Host.reduce_andi_all _ _ _ _ _ d j)⟩

/-- Neither infinity. -/
def Real' (x : EReal) : Prop := x ≠ ⊤ ∧ x ≠ ⊥

theorem real_of_lt (x : EReal) (h : Ideal.cmp .olt (max x (-x)) (Ideal.ofBits .f32 0x7F800000#32) = 1#1) : Real' x := by
  have e : Ideal.ofBits .f32 0x7F800000#32 = ⊤ := by simp [Ideal.ofBits, Ideal.ieee]
  rw [e] at h
  have h1 : max x (-x) < ⊤ := by
    by_contra hc
    exact absurd h (by show ¬ BitVec.ofBool (decide (max x (-x) < ⊤)) = 1#1; rw [decide_eq_false hc]; decide)
  refine ⟨fun e => ?_, fun e => ?_⟩
  · rw [e] at h1; exact absurd h1 (by simp)
  · rw [e] at h1; exact absurd h1 (by simp)

/-- What the second precondition says at the extended reals. -/
theorem domain_of_pre (a b : FVec Ideal S8192x64 .f32) (s t : IVec S1024x16 32) (v w : FVec Ideal S6x64x1 .f32)
    (h : fn (F := Ideal) a b s t v w = fun _ => 1#1) :
    Bounded s ∧ Bounded t ∧ (∀ j, Real' (a j)) ∧ ∀ j, Real' (b j) := by
  have h' := congrFun h (fun i => i.elim0)
  simp only [fn, fn_part1, andi, andi_one] at h'
  obtain ⟨⟨⟨⟨⟨s0, s1⟩, t0⟩, t1⟩, ha⟩, hb⟩ := h'
  exact ⟨fun j => word_bounded _ (Host.reduce_andi_all _ _ _ _ _ s0 j) (Host.reduce_andi_all _ _ _ _ _ s1 j),
    fun j => word_bounded _ (Host.reduce_andi_all _ _ _ _ _ t0 j) (Host.reduce_andi_all _ _ _ _ _ t1 j),
    fun j => real_of_lt _ (Host.reduce_andi_all _ _ _ _ _ ha j), fun j => real_of_lt _ (Host.reduce_andi_all _ _ _ _ _ hb j)⟩

end Cert.Proof
-- ==== Proof.ScTile.lean ====
/-
  The SparseCore call of the kernel, one tile at a time. Tile `(c, s)` of the grid has number `2 s + c`; it fetches its
  block of source row numbers and its block of target row numbers, gathers the table's rows they name, 128 at a time,
  into its row buffer, and writes the 512 rows out to its block of the result, first for the source list and then for
  the target list. Here: the memory the call touches, what the finished results hold (`gath`), and the run of one tile
  with exactly those contents in its two blocks.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.I

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program and its ghost state -/

abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipeline's staging rounds, the transfers' counters. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays of the call -/

/-- The table, the two lists of row numbers, the two results. -/
abbrev xLoc (d : Dev nD) : Loc nD τ sig := (SparseCore.T d).loc main_v5
abbrev siLoc (d : Dev nD) : Loc nD τ sig := (SparseCore.T d).loc main_v6
abbrev tiLoc (d : Dev nD) : Loc nD τ sig := (SparseCore.T d).loc main_v9
abbrev oLoc (d : Dev nD) : Loc nD τ sig := (SparseCore.T d).loc main_v10_0
abbrev pLoc (d : Dev nD) : Loc nD τ sig := (SparseCore.T d).loc main_v10_1

abbrev xV : Memref sig Kind.scVector Space.hbm S16384x128 EltTy.f32 := Memref.whole main_v5_scv
abbrev siV : Memref sig Kind.scVector Space.hbm S32x4x128 EltTy.i32 := Memref.whole main_v6_scv
abbrev tiV : Memref sig Kind.scVector Space.hbm S32x4x128 EltTy.i32 := Memref.whole main_v9_scv
abbrev oV : Memref sig Kind.scVector Space.hbm S32x512x128 EltTy.f32 := Memref.whole main_v10_0_scv
abbrev pV : Memref sig Kind.scVector Space.hbm S32x512x128 EltTy.f32 := Memref.whole main_v10_1_scv
abbrev aV : Memref sig Kind.scVector Space.vmem S4x128 EltTy.i32 := Memref.whole cc2_scratch0
abbrev bV : Memref sig Kind.scVector Space.vmem S4x128 EltTy.i32 := Memref.whole cc2_scratch1
abbrev rV : Memref sig Kind.scVector Space.vmem S512x128 EltTy.f32 := Memref.whole cc2_scratch2

/-- Entry `r` of block `w`'s list, `r` being the row of the block that the entry names the table row of. -/
def listIx (x : S32x512x128.Idx) : S32x4x128.Idx
  | 0 => x 0
  | 1 => ⟨(x 1).val / 128, Nat.div_lt_of_lt_mul (x 1).isLt⟩
  | 2 => ⟨(x 1).val % 128, Nat.mod_lt _ (by decide)⟩

/-- Column `x 2` of the table's row `n`. -/
def tabIx (n : ℕ) (x : S32x512x128.Idx) : S16384x128.Idx
  | 0 => ⟨n % 16384, Nat.mod_lt _ (by decide)⟩
  | 1 => x 2

/-- What a result of the call holds: at block `w`, row `r`, column `j` the table's column `j` in the row that entry `r` of
    block `w`'s list names. -/
def gath (T : S16384x128.Idx → Elt F .f32) (I : S32x4x128.Idx → Elt F .i32) : S32x512x128.Idx → Elt F .f32 :=
  fun x => T (tabIx (BitVec.toNat (I (listIx x))) x)

/-! ## The blocks -/

/-- Block `w` of a list, and of a result. -/
def lset (w : Fin 32) : Finset S32x4x128.Idx := Finset.univ.filter fun x => (x 0).val = w.val
def rset (w : Fin 32) : Finset S32x512x128.Idx := Finset.univ.filter fun x => (x 0).val = w.val

abbrev cV (L : grid2.Coords) : Fin τ.nSC := (L 0).castLE hcore2
abbrev jV (L : grid2.Coords) : Fin τ.nSub := (L 1).castLE hsub2
theorem bound_zero : grid2.bound 0 = 2 := rfl
theorem bound_one : grid2.bound 1 = 16 := rfl
/-- The tile's number. -/
def wid (L : grid2.Coords) : Fin 32 := ⟨(L 1).val * 2 + (L 0).val, by
  have h0 : (L 0).val < 2 := (L 0).isLt
  have h1 : (L 1).val < 16 := (L 1).isLt
  omega⟩

theorem off1_eq : ∀ (L : grid2.Coords) (a : Fin 3), k2_off1 L a = ![(wid L).val, 0, 0] a := by decide +kernel
theorem off2_eq : ∀ (L : grid2.Coords) (a : Fin 3), k2_off2 L a = ![(wid L).val, 0, 0] a := by decide +kernel

abbrev lrect (L : grid2.Coords) : Rect S32x4x128 := Rect.unit (s := S32x4x128) (k2_off1 L) S1x4x128.size (k2_off1_inb L)
abbrev rrect (L : grid2.Coords) : Rect S32x512x128 := Rect.unit (s := S32x512x128) (k2_off2 L) S1x512x128.size (k2_off2_inb L)
/-- The tile's blocks as the program addresses them. -/
abbrev siK (L : grid2.Coords) : Memref sig .scVector .hbm S4x128 .i32 := (siV.slice (lrect L) (fun _ => rfl)).squeeze S4x128 squeezes_S1x4x128_S4x128
abbrev tiK (L : grid2.Coords) : Memref sig .scVector .hbm S4x128 .i32 := (tiV.slice (lrect L) (fun _ => rfl)).squeeze S4x128 squeezes_S1x4x128_S4x128
abbrev oK (L : grid2.Coords) : Memref sig .scVector .hbm S512x128 .f32 := (oV.slice (rrect L) (fun _ => rfl)).squeeze S512x128 squeezes_S1x512x128_S512x128
abbrev pK (L : grid2.Coords) : Memref sig .scVector .hbm S512x128 .f32 := (pV.slice (rrect L) (fun _ => rfl)).squeeze S512x128 squeezes_S1x512x128_S512x128

theorem lrect_set (L : grid2.Coords) : (lrect L).set = lset (wid L) := by
  ext x
  rw [Rect.mem_set_unit, lset, Finset.mem_filter]
  simp only [off1_eq, Finset.mem_univ, true_and]
  constructor
  · intro h
    have h0 := h 0
    simp only [Matrix.cons_val_zero] at h0
    have : S1x4x128.size 0 = 1 := rfl
    omega
  · intro h a
    have h0 : (x 0).val = (wid L).val := h
    have h1 : (x 1).val < 4 := (x 1).isLt
    have h2 : (x 2).val < 128 := (x 2).isLt
    match a with
    | 0 => exact ⟨h0.ge, by show (x 0).val < (wid L).val + 1; omega⟩
    | 1 => exact ⟨Nat.zero_le _, by show (x 1).val < 0 + 4; omega⟩
    | 2 => exact ⟨Nat.zero_le _, by show (x 2).val < 0 + 128; omega⟩
theorem rrect_set (L : grid2.Coords) : (rrect L).set = rset (wid L) := by
  ext x
  rw [Rect.mem_set_unit, rset, Finset.mem_filter]
  simp only [off2_eq, Finset.mem_univ, true_and]
  constructor
  · intro h
    have h0 := h 0
    simp only [Matrix.cons_val_zero] at h0
    have : S1x512x128.size 0 = 1 := rfl
    omega
  · intro h a
    have h0 : (x 0).val = (wid L).val := h
    have h1 : (x 1).val < 512 := (x 1).isLt
    have h2 : (x 2).val < 128 := (x 2).isLt
    match a with
    | 0 => exact ⟨h0.ge, by show (x 0).val < (wid L).val + 1; omega⟩
    | 1 => exact ⟨Nat.zero_le _, by show (x 1).val < 0 + 512; omega⟩
    | 2 => exact ⟨Nat.zero_le _, by show (x 2).val < 0 + 128; omega⟩

theorem set_siK (L : grid2.Coords) : (siK L).view.set = lset (wid L) := by
  show ((siV.view.slice (lrect L)).reshape S4x128 squeezes_S1x4x128_S4x128.numel_eq).set = _
  rw [View.set_reshape, ← lrect_set]
  show ((View.whole (main_v6_scv : Ref sig .scVector)).slice (lrect L)).set = _
  rw [View.set_slice]; exact Finset.map_refl
theorem set_tiK (L : grid2.Coords) : (tiK L).view.set = lset (wid L) := by
  show ((tiV.view.slice (lrect L)).reshape S4x128 squeezes_S1x4x128_S4x128.numel_eq).set = _
  rw [View.set_reshape, ← lrect_set]
  show ((View.whole (main_v9_scv : Ref sig .scVector)).slice (lrect L)).set = _
  rw [View.set_slice]; exact Finset.map_refl
theorem set_oK (L : grid2.Coords) : (oK L).view.set = rset (wid L) := by
  show ((oV.view.slice (rrect L)).reshape S512x128 squeezes_S1x512x128_S512x128.numel_eq).set = _
  rw [View.set_reshape, ← rrect_set]
  show ((View.whole (main_v10_0_scv : Ref sig .scVector)).slice (rrect L)).set = _
  rw [View.set_slice]; exact Finset.map_refl
theorem set_pK (L : grid2.Coords) : (pK L).view.set = rset (wid L) := by
  show ((pV.view.slice (rrect L)).reshape S512x128 squeezes_S1x512x128_S512x128.numel_eq).set = _
  rw [View.set_reshape, ← rrect_set]
  show ((View.whole (main_v10_1_scv : Ref sig .scVector)).slice (rrect L)).set = _
  rw [View.set_slice]; exact Finset.map_refl

section Tile

variable (d : Dev nD) (L : grid2.Coords)

theorem pts_siK (f : Buf (Elt F) (siLoc d)) :
    ((siK L).view.loc (V d (cV L) (jV L)) ↦[(siK L).view.set]{fullShare} f : sProp 𝕄) = siLoc d ↦[lset (wid L)]{fullShare} f := by
  rw [set_siK]
theorem pts_tiK (f : Buf (Elt F) (tiLoc d)) :
    ((tiK L).view.loc (V d (cV L) (jV L)) ↦[(tiK L).view.set]{fullShare} f : sProp 𝕄) = tiLoc d ↦[lset (wid L)]{fullShare} f := by
  rw [set_tiK]
theorem pts_oK (f : Buf (Elt F) (oLoc d)) :
    ((oK L).view.loc (V d (cV L) (jV L)) ↦[(oK L).view.set]{fullShare} f : sProp 𝕄) = oLoc d ↦[rset (wid L)]{fullShare} f := by
  rw [set_oK]
theorem pts_pK (f : Buf (Elt F) (pLoc d)) :
    ((pK L).view.loc (V d (cV L) (jV L)) ↦[(pK L).view.set]{fullShare} f : sProp 𝕄) = pLoc d ↦[rset (wid L)]{fullShare} f := by
  rw [set_pK]

/-! ## The tile's own storage -/

/-- One of the tile's transfer cells. -/
abbrev cell (d : Dev nD) (L : grid2.Coords) (s : DmaSem sig) : GSem nD τ sig := (V d (cV L) (jV L), .dma s)

/-- The rest of the tile's cells when the five the body uses are out. -/
abbrev restCells : Finset (GSem nD τ sig) :=
  ((((((ownCells (V d (cV L) (jV L))).erase (cell d L cc2_scratch3.sem)).erase (cell d L cc2_scoped0.sem)).erase (cell d L cc2_scoped1.sem)).erase
    (cell d L cc2_scoped2.sem)).erase (cell d L cc2_scoped3.sem))

theorem cell_mem (s : DmaSem sig) (h : (SemLoc.dma s : SemLoc sig).isScoped .scVector = true) : cell d L s ∈ ownCells (V d (cV L) (jV L)) :=
  mem_ownCells.mpr ⟨rfl, h⟩
theorem cell_ne {s t : DmaSem sig} (h : s ≠ t) : cell d L s ≠ cell d L t := fun e => h (SemLoc.dma.inj (Prod.mk.inj e).2)

theorem ownSems0_V :
    (ownSems0 (V d (cV L) (jV L)) : sProp 𝕄)
      = iprop(semVal (cell d L cc2_scratch3.sem) 0 ∗ semVal (cell d L cc2_scoped0.sem) 0 ∗ semVal (cell d L cc2_scoped1.sem) 0
          ∗ semVal (cell d L cc2_scoped2.sem) 0 ∗ semVal (cell d L cc2_scoped3.sem) 0 ∗ bigSep (restCells d L) fun g => semVal g 0) := by
  have m0 := cell_mem d L cc2_scratch3.sem (by decide)
  have m1 := cell_mem d L cc2_scoped0.sem (by decide)
  have m2 := cell_mem d L cc2_scoped1.sem (by decide)
  have m3 := cell_mem d L cc2_scoped2.sem (by decide)
  have m4 := cell_mem d L cc2_scoped3.sem (by decide)
  have n10 : cell d L cc2_scoped0.sem ≠ cell d L cc2_scratch3.sem := cell_ne d L (by decide)
  have n20 : cell d L cc2_scoped1.sem ≠ cell d L cc2_scratch3.sem := cell_ne d L (by decide)
  have n30 : cell d L cc2_scoped2.sem ≠ cell d L cc2_scratch3.sem := cell_ne d L (by decide)
  have n40 : cell d L cc2_scoped3.sem ≠ cell d L cc2_scratch3.sem := cell_ne d L (by decide)
  have n21 : cell d L cc2_scoped1.sem ≠ cell d L cc2_scoped0.sem := cell_ne d L (by decide)
  have n31 : cell d L cc2_scoped2.sem ≠ cell d L cc2_scoped0.sem := cell_ne d L (by decide)
  have n41 : cell d L cc2_scoped3.sem ≠ cell d L cc2_scoped0.sem := cell_ne d L (by decide)
  have n32 : cell d L cc2_scoped2.sem ≠ cell d L cc2_scoped1.sem := cell_ne d L (by decide)
  have n42 : cell d L cc2_scoped3.sem ≠ cell d L cc2_scoped1.sem := cell_ne d L (by decide)
  have n43 : cell d L cc2_scoped3.sem ≠ cell d L cc2_scoped2.sem := cell_ne d L (by decide)
  unfold SparseCore.Cfg.ownSems0 restCells
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩),
    SparseCore.bigSep_erase' (Finset.mem_erase.mpr ⟨n43, Finset.mem_erase.mpr ⟨n42, Finset.mem_erase.mpr ⟨n41, Finset.mem_erase.mpr ⟨n40, m4⟩⟩⟩⟩)]

/-- The tile's own buffer `b`. -/
abbrev dref (L : grid2.Coords) (b : Ref sig .scVector) : DevRef τ sig := (Proc.scVector (cV L) (jV L)).devRef b

theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)
          ∗ bigSep ((((ownRefs (τ := τ) (.scVector (cV L) (jV L))).erase (dref L cc2_scratch0)).erase (dref L cc2_scratch1)).erase (dref L cc2_scratch2))
              fun b => iprop(∃ f, ((d, b) : Loc nD τ sig) ↦{fullShare} f)) := by
  have m (b : Ref sig .scVector) (h : (dref L b).owner = .proc (.scVector (cV L) (jV L))) : dref L b ∈ ownRefs (τ := τ) (.scVector (cV L) (jV L)) :=
    SparseCore.Cfg.mem_ownRefs_of_owner h
  have n {a b : Ref sig .scVector} (h : a ≠ b) : dref L a ≠ dref L b := fun e => h (Proc.devRef_injective _ e)
  unfold SparseCore.Cfg.ownBufs
  refine (SparseCore.bigSep_erase' (m cc2_scratch0 rfl)).trans ?_
  rw [SparseCore.bigSep_erase' (Finset.mem_erase.mpr ⟨n (by decide), m cc2_scratch1 rfl⟩),
    SparseCore.bigSep_erase' (Finset.mem_erase.mpr ⟨n (by decide), Finset.mem_erase.mpr ⟨n (by decide), m cc2_scratch2 rfl⟩⟩)]

end Tile

end Cert.Proof.I

end
-- ==== Proof.ScValue.lean ====
/-
  What one tile of the SparseCore call writes: after its four indexed copies the tile's row buffer holds, at row `128 k + r`, the
  table's row that entry `r` of row `k` of the tile's list names; so the block that goes out holds `gath` of the table and the list.
-/
module

public import proofs.«01_k».proof.Proof.ScTile

@[expose] public section

noncomputable section

namespace Cert.Proof.I

open Cert.KernelIdeal Cert.KernelIdeal.Gen

open Idealize.ShloMosaic
open Idealize.ShloMosaic.SparseCore (S V T)

variable {F : FTy → Type} [FloatOps F] [Named F]

/-- Entry `(j 0, j 1)` of block `w`'s list. -/
def blkIx (w : Fin 32) (j : S4x128.Idx) : S32x4x128.Idx
  | 0 => w
  | 1 => j 0
  | 2 => j 1

/-- Element `(y 0, y 1)` of block `w` of a result. -/
def rowIx (w : Fin 32) (y : S512x128.Idx) : S32x512x128.Idx
  | 0 => w
  | 1 => y 0
  | 2 => y 1

theorem lrect_emb (L : grid2.Coords) (j : S4x128.Idx) :
    (lrect L).emb (Shape.reshapeEquiv squeezes_S1x4x128_S4x128.numel_eq j) = blkIx (wid L) j := by
  rw [show Shape.reshapeEquiv squeezes_S1x4x128_S4x128.numel_eq j = Fin.cons (⟨0, Nat.one_pos⟩ : Fin 1) j from Shape.reshapeEquiv_cons_one _ j]
  funext a
  apply Fin.ext
  show k2_off1 L a + 1 * _ = _
  rw [off1_eq]
  match a with
  | 0 => exact Nat.add_zero _
  | 1 => show 0 + 1 * (j 0).val = (j 0).val; omega
  | 2 => show 0 + 1 * (j 1).val = (j 1).val; omega

theorem rrect_emb (L : grid2.Coords) (y : S512x128.Idx) :
    (rrect L).emb (Shape.reshapeEquiv squeezes_S1x512x128_S512x128.numel_eq y) = rowIx (wid L) y := by
  rw [show Shape.reshapeEquiv squeezes_S1x512x128_S512x128.numel_eq y = Fin.cons (⟨0, Nat.one_pos⟩ : Fin 1) y from Shape.reshapeEquiv_cons_one _ y]
  funext a
  apply Fin.ext
  show k2_off2 L a + 1 * _ = _
  rw [off2_eq]
  match a with
  | 0 => exact Nat.add_zero _
  | 1 => show 0 + 1 * (y 0).val = (y 0).val; omega
  | 2 => show 0 + 1 * (y 1).val = (y 1).val; omega

theorem read_siK (L : grid2.Coords) (I : S32x4x128.Idx → Elt F .i32) (j : S4x128.Idx) :
    (siK L).view.read (Elt F) I j = I (blkIx (wid L) j) := congrArg I (lrect_emb L j)
theorem read_tiK (L : grid2.Coords) (I : S32x4x128.Idx → Elt F .i32) (j : S4x128.Idx) :
    (tiK L).view.read (Elt F) I j = I (blkIx (wid L) j) := congrArg I (lrect_emb L j)

/-- Row `k` of the tile's list buffer `M`, as the gathers name it. -/
abbrev lrow (M : Memref sig .scVector .vmem S4x128 .i32) (off : Fin 2 → ℕ) (inb : ∀ a, off a + S1x128.size a ≤ S4x128.size a) :
    Memref sig .scVector .vmem S128 .i32 := (M.slice (Rect.unit (s := S4x128) off S1x128.size inb) (fun _ => rfl)).squeeze S128 squeezes_S1x128_S128

/-- The table as the gathers name it. -/
abbrev xW : Memref sig .scVector .hbm S16384x128 .f32 :=
  xV.slice (Rect.unit (s := S16384x128) ![0, 0] S16384x128.size inb_S16384x128_S16384x128_0_0) (fun _ => rfl)

/-- Entry `c` of row `k` of a list. -/
def entIx (k : Fin 4) (c : Fin 128) : S4x128.Idx
  | 0 => k
  | 1 => c

theorem lrow_emb (k : Fin 4) (off : Fin 2 → ℕ) (hoff : off = ![k.val, 0]) (inb : ∀ a, off a + S1x128.size a ≤ S4x128.size a) (x : S128.Idx) :
    (Rect.unit (s := S4x128) off S1x128.size inb).emb (Shape.reshapeEquiv squeezes_S1x128_S128.numel_eq x) = entIx k (x 0) := by
  subst hoff
  rw [show Shape.reshapeEquiv squeezes_S1x128_S128.numel_eq x = Fin.cons (⟨0, Nat.one_pos⟩ : Fin 1) x from Shape.reshapeEquiv_cons_one _ x]
  funext a
  apply Fin.ext
  match a with
  | 0 => exact Nat.add_zero _
  | 1 => show 0 + 1 * (x 0).val = (x 0).val; omega

/-- One indexed copy: the 128 rows its list row names, placed at the rows `128 k …` of the tile's block. -/
theorem gather_block (L : grid2.Coords) (X : S16384x128.Idx → Elt F .f32) (I : S32x4x128.Idx → Elt F .i32) (k : Fin 4)
    (R : S128.Idx → Elt F .i32) (hR : ∀ x, R x = I (blkIx (wid L) (entIx k (x 0)))) (hn : S128.numel = S128x128.size gathers_S16384x128_S128x128.axis')
    (h : ∀ x, (R x).toNat < S16384x128.size gathers_S16384x128_S128x128.axis)
    (off : Fin 2 → ℕ) (hoff : off = ![128 * k.val, 0]) (inb : ∀ a, off a + S128x128.size a ≤ S512x128.size a) (x : S128x128.Idx) :
    SparseCore.gatherPayload gathers_S16384x128_S128x128 (xW.view.read (Elt F) X) (SparseCore.rows R hn h) x
      = gath X I (rowIx (wid L) ((Rect.unit (s := S512x128) off S128x128.size inb).emb x)) := by
  subst hoff
  have hx : ((S128.rowMajor.symm ((x 0).cast hn.symm)) 0).val = (x 0).val := by
    rw [← Shape.rowMajor_val_one, Equiv.apply_symm_apply]; rfl
  unfold SparseCore.gatherPayload gath
  show X _ = X _
  congr 1
  funext a
  apply Fin.ext
  match a with
  | 0 =>
    show 0 + 1 * (gathers_S16384x128_S128x128.idx (SparseCore.rows R hn h) x gathers_S16384x128_S128x128.axis).val = _
    rw [Shape.Gathers.idx_axis]
    have he : listIx (rowIx (wid L) ((Rect.unit (s := S512x128) ![128 * k.val, 0] S128x128.size inb).emb x))
        = blkIx (wid L) (entIx k (x 0)) := by
      funext b
      apply Fin.ext
      have hk := (x 0).isLt
      match b with
      | 0 => rfl
      | 1 => show (128 * k.val + 1 * (x 0).val) / 128 = k.val; have : (x 0).val < 128 := (x 0).isLt; omega
      | 2 => show (128 * k.val + 1 * (x 0).val) % 128 = (x 0).val; have : (x 0).val < 128 := (x 0).isLt; omega
    have hr : R (S128.rowMajor.symm ((x 0).cast hn.symm)) = I (blkIx (wid L) (entIx k (x 0))) := by
      rw [hR]; congr 3; exact Fin.ext hx
    show 0 + 1 * BitVec.toNat (R (S128.rowMajor.symm ((x 0).cast hn.symm))) = BitVec.toNat (I (listIx _)) % 16384
    have hb : BitVec.toNat (R (S128.rowMajor.symm ((x 0).cast hn.symm))) < 16384 := h _
    rw [he, ← hr, Nat.mod_eq_of_lt hb]; omega
  | 1 =>
    show 0 + 1 * (gathers_S16384x128_S128x128.idx (SparseCore.rows R hn h) x (1 : Fin 2)).val = 0 + 1 * (x 1).val
    rw [Shape.Gathers.idx_of_ne _ _ _ _ (by decide)]; rfl

/-- The four boxes of 128 rows cover the row buffer. -/
theorem rows_cover (y : S512x128.Idx) :
    y ∈ (Rect.unit (s := S512x128) ![384, 0] S128x128.size inb_S512x128_S128x128_384_0).set
      ∨ y ∈ (Rect.unit (s := S512x128) ![256, 0] S128x128.size inb_S512x128_S128x128_256_0).set
      ∨ y ∈ (Rect.unit (s := S512x128) ![128, 0] S128x128.size inb_S512x128_S128x128_128_0).set
      ∨ y ∈ (Rect.unit (s := S512x128) ![0, 0] S128x128.size inb_S512x128_S128x128_0_0).set := by
  have h0 : (y 0).val < 512 := (y 0).isLt
  have h1 : (y 1).val < 128 := (y 1).isLt
  simp only [Rect.mem_set_unit, Fin.forall_fin_two]
  show (384 ≤ (y 0).val ∧ (y 0).val < 384 + 128) ∧ (0 ≤ (y 1).val ∧ (y 1).val < 0 + 128)
    ∨ (256 ≤ (y 0).val ∧ (y 0).val < 256 + 128) ∧ (0 ≤ (y 1).val ∧ (y 1).val < 0 + 128)
    ∨ (128 ≤ (y 0).val ∧ (y 0).val < 128 + 128) ∧ (0 ≤ (y 1).val ∧ (y 1).val < 0 + 128)
    ∨ (0 ≤ (y 0).val ∧ (y 0).val < 0 + 128) ∧ (0 ≤ (y 1).val ∧ (y 1).val < 0 + 128)
  omega

/-- The row buffer after the four indexed copies, whatever it held before. -/
theorem read_rows (L : grid2.Coords) (X : S16384x128.Idx → Elt F .f32) (I : S32x4x128.Idx → Elt F .i32) (g : rV.view.ty.Contents (Elt F))
    (w₀ w₁ w₂ w₃ : S128x128.Idx → Elt F .f32)
    (h₀ : ∀ x, w₀ x = gath X I (rowIx (wid L) ((Rect.unit (s := S512x128) ![0, 0] S128x128.size inb_S512x128_S128x128_0_0).emb x)))
    (h₁ : ∀ x, w₁ x = gath X I (rowIx (wid L) ((Rect.unit (s := S512x128) ![128, 0] S128x128.size inb_S512x128_S128x128_128_0).emb x)))
    (h₂ : ∀ x, w₂ x = gath X I (rowIx (wid L) ((Rect.unit (s := S512x128) ![256, 0] S128x128.size inb_S512x128_S128x128_256_0).emb x)))
    (h₃ : ∀ x, w₃ x = gath X I (rowIx (wid L) ((Rect.unit (s := S512x128) ![384, 0] S128x128.size inb_S512x128_S128x128_384_0).emb x)))
    (L' : List (View.Piece (Elt F) S512x128 .f32)) (y : S512x128.Idx) :
    rV.view.read (Elt F) (rV.view.writes (Elt F) g
      (⟨Rect.unit ![384, 0] S128x128.size inb_S512x128_S128x128_384_0, w₃⟩ :: ⟨Rect.unit ![256, 0] S128x128.size inb_S512x128_S128x128_256_0, w₂⟩
        :: ⟨Rect.unit ![128, 0] S128x128.size inb_S512x128_S128x128_128_0, w₁⟩ :: ⟨Rect.unit ![0, 0] S128x128.size inb_S512x128_S128x128_0_0, w₀⟩ :: L')) y
      = gath X I (rowIx (wid L) y) := by
  rw [show ∀ a b c e : View.Piece (Elt F) S512x128 .f32, a :: b :: c :: e :: L' = [a, b, c, e] ++ L' from fun _ _ _ _ => rfl, View.writes_append]
  refine View.read_writes_apply_of_pieces (v := rV.view) _ (G := fun y => gath X I (rowIx (wid L) y)) _ ?_ y ?_
  · intro p hp
    simp only [List.mem_cons, List.not_mem_nil, or_false] at hp
    obtain rfl | rfl | rfl | rfl := hp
    · exact h₃
    · exact h₂
    · exact h₁
    · exact h₀
  · obtain h | h | h | h := rows_cover y
    · exact ⟨_, List.mem_cons_self, h⟩
    · exact ⟨_, List.mem_cons_of_mem _ List.mem_cons_self, h⟩
    · exact ⟨_, List.mem_cons_of_mem _ (List.mem_cons_of_mem _ List.mem_cons_self), h⟩
    · exact ⟨_, List.mem_cons_of_mem _ (List.mem_cons_of_mem _ (List.mem_cons_of_mem _ List.mem_cons_self)), h⟩

/-- A result's block, after the row buffer was copied to it. -/
theorem block_oK (L : grid2.Coords) (X : S16384x128.Idx → Elt F .f32) (I : S32x4x128.Idx → Elt F .i32) (f : S32x512x128.Idx → Elt F .f32)
    (w : S512x128.Idx → Elt F .f32) (hw : ∀ y, w y = gath X I (rowIx (wid L) y)) (i : S32x512x128.Idx) (hi : i ∈ (oK L).view.set) :
    (oK L).view.writes (Elt F) f [⟨Rect.whole S512x128, w⟩] i = gath X I i := by
  obtain ⟨y, -, rfl⟩ := Finset.mem_map.mp hi
  have h : (oK L).view.emb y = rowIx (wid L) y := rrect_emb L y
  have := congrFun (View.read_writes_whole (oK L).view f w) y
  rw [h, ← hw, ← this, ← h]; rfl
theorem block_pK (L : grid2.Coords) (X : S16384x128.Idx → Elt F .f32) (I : S32x4x128.Idx → Elt F .i32) (f : S32x512x128.Idx → Elt F .f32)
    (w : S512x128.Idx → Elt F .f32) (hw : ∀ y, w y = gath X I (rowIx (wid L) y)) (i : S32x512x128.Idx) (hi : i ∈ (pK L).view.set) :
    (pK L).view.writes (Elt F) f [⟨Rect.whole S512x128, w⟩] i = gath X I i := by
  obtain ⟨y, -, rfl⟩ := Finset.mem_map.mp hi
  have h : (pK L).view.emb y = rowIx (wid L) y := rrect_emb L y
  have := congrFun (View.read_writes_whole (pK L).view f w) y
  rw [h, ← hw, ← this, ← h]; rfl

end Cert.Proof.I

end
-- ==== Proof.ScBody.lean ====
/-
  The run of one tile of the SparseCore call, from its two lists and a share of the table to its two blocks of the
  results.
-/
module

public import proofs.«01_k».proof.Proof.ScValue

@[expose] public section

noncomputable section

namespace Cert.Proof.I

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (d : Dev nD) (L : grid2.Coords)

set_option maxHeartbeats 8000000 in
theorem tile_body (q : PosShare TreeShare) (X : Buf (Elt F) (xLoc d)) (I : Buf (Elt F) (siLoc d)) (J : Buf (Elt F) (tiLoc d))
    (fo : Buf (Elt F) (oLoc d)) (fp : Buf (Elt F) (pLoc d))
    (hI : ∀ j, (I j).toNat < 16384) (hJ : ∀ j, (J j).toNat < 16384)
    (O : CellTallies nD τ sig (HIx 1)) (W : Waits sig (HIx 1)) (hO : ∀ g, O g none = 0) :
    (iprop(levAts (K (F := F)).L (K (F := F)).lev ∗ emp
        ∗ ((siLoc d ↦[lset (wid L)]{fullShare} I) ∗ (tiLoc d ↦[lset (wid L)]{fullShare} J) ∗ (xLoc d ↦{q} X)
          ∗ (oLoc d ↦[rset (wid L)]{fullShare} fo) ∗ (pLoc d ↦[rset (wid L)]{fullShare} fp))
        ∗ scopedBufs (V d (cV L) (jV L)) ∗ scopedSems0 (V d (cV L) (jV L)) ∗ owes (V d (cV L) (jV L)) O W) : sProp 𝕄)
      ⊢ wp (M := 𝕄) frame (wpE (defs₀ (F := F)) 𝒱₀ (V d (cV L) (jV L)) none) Set.univ
          (cc2_sc_gather L xV (Memref.isWhole_whole _) siV (Memref.isWhole_whole _) tiV (Memref.isWhole_whole _) oV (Memref.isWhole_whole _)
            pV (Memref.isWhole_whole _) aV (Memref.isWhole_whole _) bV (Memref.isWhole_whole _) rV (Memref.isWhole_whole _)
            cc2_scratch3 cc2_scoped0 cc2_scoped1 cc2_scoped2 cc2_scoped3)
          fun _ => iprop(((siLoc d ↦[lset (wid L)]{fullShare} I) ∗ (tiLoc d ↦[lset (wid L)]{fullShare} J) ∗ (xLoc d ↦{q} X)
              ∗ (oLoc d ↦[rset (wid L)]{fullShare} gath X I) ∗ (pLoc d ↦[rset (wid L)]{fullShare} gath X J))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_sc_gather_eq_skeleton]; unfold cc2_sc_gather_skel
  simp only [k2_part1_eq_skeleton, k2_part2_eq_skeleton, k2_part3_eq_skeleton, k2_part4_eq_skeleton]
  unfold k2_part1_skel k2_part2_skel k2_part3_skel k2_part4_skel
  rw [(K (F := F)).scopedBufs_V facts d (cV L) (jV L), SparseCore.Cfg.scopedSems0_V (Val := Elt F) d (cV L) (jV L), ownSems0_V, ownBufs_V]
  iintro ⟨#Hlv, -, ⟨Hi, Hj, Hx, Ho, Hp⟩, ⟨⟨%fa, Ha⟩, ⟨%fb, Hb⟩, ⟨%fr, Hr⟩, Hbufs⟩, ⟨Hg, Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_siK (F := F) d L _).symm) $$ Hi
  ihave Hj' := (Entails.of_eq (pts_tiK (F := F) d L _).symm) $$ Hj
  ihave Ho' := (Entails.of_eq (pts_oK (F := F) d L _).symm) $$ Ho
  ihave Hp' := (Entails.of_eq (pts_pK (F := F) d L _).symm) $$ Hp
  ihave Hx' := (Entails.of_eq (show (xLoc d ↦{q} X : sProp 𝕄) = (xV.view.loc (V d (cV L) (jV L)) ↦{q} X) from rfl)) $$ Hx
  ihave Ha' := (Entails.of_eq (show ((V d (cV L) (jV L)).loc cc2_scratch0 ↦{fullShare} fa : sProp 𝕄) = (aV.view.loc (V d (cV L) (jV L)) ↦{fullShare} fa) from rfl)) $$ Ha
  ihave Hb' := (Entails.of_eq (show ((V d (cV L) (jV L)).loc cc2_scratch1 ↦{fullShare} fb : sProp 𝕄) = (bV.view.loc (V d (cV L) (jV L)) ↦{fullShare} fb) from rfl)) $$ Hb
  ihave Hr' := (Entails.of_eq (show ((V d (cV L) (jV L)).loc cc2_scratch2 ↦{fullShare} fr : sProp 𝕄) = (rV.view.loc (V d (cV L) (jV L)) ↦{fullShare} fr) from rfl)) $$ Hr
  sl_exec
  generalize hAe : View.write (Elt F) aV.view fa (tile_body.sl.dma0 d L I) Finset.univ = A
  generalize hBe : View.write (Elt F) bV.view fb (tile_body.sl.dma0_1 d L J) Finset.univ = B
  have hA : ∀ j, A j = (siK L).view.read (Elt F) I j := fun j => by
    rw [← hAe]; exact congrFun (View.write_whole_univ _ _ _) j
  have hB : ∀ j, B j = (tiK L).view.read (Elt F) J j := fun j => by
    rw [← hBe]; exact congrFun (View.write_whole_univ _ _ _) j
  have hAin : ∀ off inb x, ((lrow aV off inb).view.read (Elt F) A x).toNat < S16384x128.size gathers_S16384x128_S128x128.axis := fun off inb x => by
    rw [show (lrow aV off inb).view.read (Elt F) A x = A _ from rfl, hA]; exact hI _
  have hBin : ∀ off inb x, ((lrow bV off inb).view.read (Elt F) B x).toNat < S16384x128.size gathers_S16384x128_S128x128.axis := fun off inb x => by
    rw [show (lrow bV off inb).view.read (Elt F) B x = B _ from rfl, hB]; exact hJ _
  sl_exec
  have hRA : ∀ (k : Fin 4) (inb : ∀ a, ![k.val, 0] a + S1x128.size a ≤ S4x128.size a) (x : S128.Idx),
      (lrow aV ![k.val, 0] inb).view.read (Elt F) A x = I (blkIx (wid L) (entIx k (x 0))) := fun k inb x =>
    (congrArg A (lrow_emb k _ rfl inb x)).trans ((hA _).trans (read_siK L I _))
  have hRB : ∀ (k : Fin 4) (inb : ∀ a, ![k.val, 0] a + S1x128.size a ≤ S4x128.size a) (x : S128.Idx),
      (lrow bV ![k.val, 0] inb).view.read (Elt F) B x = J (blkIx (wid L) (entIx k (x 0))) := fun k inb x =>
    (congrArg B (lrow_emb k _ rfl inb x)).trans ((hB _).trans (read_tiK L J _))
  have hO' : ∀ i ∈ (oK L).view.set, (oK L).view.writes (Elt F) fo [⟨Rect.whole S512x128, tile_body.sl.dma0_2 d L X fr A hAin⟩] i = gath X I i := fun i hi =>
    block_oK L X I fo _ (fun y => read_rows L X I fr _ _ _ _
      (gather_block L X I 0 _ (hRA 0 _) _ _ _ rfl _) (gather_block L X I 1 _ (hRA 1 _) _ _ _ rfl _)
      (gather_block L X I 2 _ (hRA 2 _) _ _ _ rfl _) (gather_block L X I 3 _ (hRA 3 _) _ _ _ rfl _) [] y) i hi
  have hP' : ∀ i ∈ (pK L).view.set, (pK L).view.writes (Elt F) fp [⟨Rect.whole S512x128, tile_body.sl.dma0_3 d L X fr A B hAin hBin⟩] i = gath X J i := fun i hi =>
    block_pK L X J fp _ (fun y => read_rows L X J fr _ _ _ _
      (gather_block L X J 0 _ (hRB 0 _) _ _ _ rfl _) (gather_block L X J 1 _ (hRB 1 _) _ _ _ rfl _)
      (gather_block L X J 2 _ (hRB 2 _) _ _ _ rfl _) (gather_block L X J 3 _ (hRB 3 _) _ _ _ rfl _) _ y) i hi
  ihave Ho'' := (Entails.of_eq (pointsTo_congr hO')) $$ Ho'
  ihave Hp'' := (Entails.of_eq (pointsTo_congr hP')) $$ Hp'
  ihave Hi := (Entails.of_eq (pts_siK (F := F) d L _)) $$ Hi'
  ihave Hj := (Entails.of_eq (pts_tiK (F := F) d L _)) $$ Hj'
  ihave Ho := (Entails.of_eq (pts_oK (F := F) d L _)) $$ Ho''
  ihave Hp := (Entails.of_eq (pts_pK (F := F) d L _)) $$ Hp''
  sl_step
  isplitl [Hi Hj Hx' Ho Hp]
  · isplitl [Hi]; · iexact Hi
    isplitl [Hj]; · iexact Hj
    isplitl [Hx']; · iexact Hx'
    isplitl [Ho]; · iexact Ho
    iexact Hp
  isplitl [Ha' Hb' Hr' Hbufs]
  · isplitl [Ha']; · iexists A; iexact Ha'
    isplitl [Hb']; · iexists B; iexact Hb'
    isplitl [Hr']; · iexists _; iexact Hr'
    iexact Hbufs
  isplitl [Hg Hs0 Hs1 Hs2 Hs3 Hsems]
  · isplitl [Hg]; · iexact Hg
    isplitl [Hs0]; · iexact Hs0
    isplitl [Hs1]; · iexact Hs1
    isplitl [Hs2]; · iexact Hs2
    isplitl [Hs3]; · iexact Hs3
    iexact Hsems
  iexists _
  isplitr
  swap; · iexact HO
  ipureintro
  intro p hp
  simp only [Finset.mem_insert] at hp
  rcases hp with rfl | rfl | rfl | rfl | rfl | rfl | rfl | rfl | rfl | rfl | rfl | rfl | h
  all_goals first | exact .inr rfl | exact .inl h

end Tile

end Cert.Proof.I

end
-- ==== Proof.ScLaunch.lean ====
/-
  The SparseCore call as the TensorCore's program launches it. The call takes the table, the two lists and the two results;
  tile number `w` takes block `w` of each list and of each result and one of 32 read shares of the table, and brings them
  back with its two result blocks at the gathered rows. Here: what is handed to the tiles and back (`P`), each tile's
  obligation, and the five arrays dealt into the 32 parts and joined again.
-/
module

public import proofs.«01_k».proof.Proof.ScBody

@[expose] public section

set_option maxRecDepth 16384

noncomputable section

namespace Cert.Proof.I

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## What a tile takes and brings back -/

/-- The tile at core `c`, subcore `s`. -/
def coordsV (c : Fin (grid2.bound 0)) (s : Fin (grid2.bound 1)) : grid2.Coords :=
  fun | 0 => c | 1 => s | ⟨_ + 2, h⟩ => absurd h (Nat.not_lt.2 (Nat.le_add_left _ _))

/-- The number of the tile that runs task `i` on core `c` of the call. -/
def tileNo (c : Fin ((K (F := F)).nCore 0)) (i : Fin ((K (F := F)).nSub 0)) : Fin 32 := wid (coordsV ⟨c.val, c.isLt⟩ ⟨i.val, i.isLt⟩)

/-- The table's share that tile `w` reads. -/
abbrev xShare (w : Fin 32) : PosShare TreeShare := Transfers.shareTok fullShare 32 w

section Parts

variable (X : (d : Dev nD) → Buf (Elt F) (xLoc d)) (I : (d : Dev nD) → Buf (Elt F) (siLoc d)) (J : (d : Dev nD) → Buf (Elt F) (tiLoc d))
variable (fo : (d : Dev nD) → Buf (Elt F) (oLoc d)) (fp : (d : Dev nD) → Buf (Elt F) (pLoc d))

/-- Tile `w`'s part of the five arrays, the results' blocks at `fo` and `fp`. -/
abbrev part (d : Dev nD) (w : Fin 32) : sProp 𝕄 :=
  iprop((siLoc d ↦[lset w]{fullShare} I d) ∗ (tiLoc d ↦[lset w]{fullShare} J d) ∗ (xLoc d ↦{xShare w} X d)
    ∗ (oLoc d ↦[rset w]{fullShare} fo d) ∗ (pLoc d ↦[rset w]{fullShare} fp d))

/-- What the results hold after the call. -/
abbrev gathO (d : Dev nD) : Buf (Elt F) (oLoc d) := gath (X d) (I d)
abbrev gathP (d : Dev nD) : Buf (Elt F) (pLoc d) := gath (X d) (J d)

def P : (K (F := F)).Pay (nD := nD) (Val := Elt F) (Name := ℕ) (U := UU) where
  st := fun q d c => match q with | 0 => bigSep Finset.univ fun i : Fin ((K (F := F)).nSub 0) => part X I J fo fp d (tileNo (F := F) c i)
  dn := fun q d c => match q with
    | 0 => bigSep Finset.univ fun i : Fin ((K (F := F)).nSub 0) => part X I J (gathO X I) (gathP X J) d (tileNo (F := F) c i)
  go := fun q d c i => match q with | 0 => part X I J fo fp d (tileNo (F := F) c i)
  td := fun q d c i => match q with | 0 => part X I J (gathO X I) (gathP X J) d (tileNo (F := F) c i)
  x := fun _ _ => iprop(emp)

instance P_storable : (P X I J fo fp).IsStorable where
  st q d c := match q with
    | 0 => (inferInstance : BI.Storable (upEmb : UEmb _ 𝕄) (bigSep Finset.univ fun i : Fin ((K (F := F)).nSub 0) => part X I J fo fp d (tileNo (F := F) c i)))
  dn q d c := match q with
    | 0 => (inferInstance : BI.Storable (upEmb : UEmb _ 𝕄)
        (bigSep Finset.univ fun i : Fin ((K (F := F)).nSub 0) => part X I J (gathO X I) (gathP X J) d (tileNo (F := F) c i)))
  go q d c i := match q with
    | 0 => (inferInstance : BI.Storable (upEmb : UEmb _ 𝕄) (part X I J fo fp d (tileNo (F := F) c i)))
  td q d c i := match q with
    | 0 => (inferInstance : BI.Storable (upEmb : UEmb _ 𝕄) (part X I J (gathO X I) (gathP X J) d (tileNo (F := F) c i)))

/-! ## The tiles' obligation -/

theorem defs₀_vector (c : Fin τ.nSC) (s : Fin τ.nSub) :
    defs₀ (F := F) (.scVector c s) 2 ()
      = SparseCore.onTile hcore2 hsub2 (fun c s => cc2_sc_gather (coordsV c s)
          xV (Memref.isWhole_whole _) siV (Memref.isWhole_whole _) tiV (Memref.isWhole_whole _) oV (Memref.isWhole_whole _) pV (Memref.isWhole_whole _)
          aV (Memref.isWhole_whole _) bV (Memref.isWhole_whole _) rV (Memref.isWhole_whole _) cc2_scratch3 cc2_scoped0 cc2_scoped1 cc2_scoped2 cc2_scoped3) ⟨⟩ c s := rfl

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro
    intro p hp
    rcases hW' p hp with h | h
    · exact Or.inl h
    · exact Or.inr (Or.inl h)
  · iexact HO

/-- Every entry of both lists names a row of the table. -/
def InRange : Prop := ∀ d : Dev nD, (∀ j, (I d j).toNat < 16384) ∧ ∀ j, (J d j).toNat < 16384

theorem tileObl (h : InRange I J) : (K (F := F)).TileObl (D (F := F)) 𝒱 (P X I J fo fp) v₀ 0 := by
  intro d c i O W hO _ _
  simp only [show (P X I J fo fp).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (xShare (tileNo (F := F) c i)) (X d) (I d) (J d) (fo d) (fp d) (h d).1 (h d).2 O W hO).trans
    (wp_mono frame _ _ fun _ => weaken_waits)

theorem vecSplit : (K (F := F)).VecSplit' (P X I J fo fp) 0 := by
  intro d c
  show (bigSep Finset.univ fun i : Fin ((K (F := F)).nSub 0) => part X I J fo fp d (tileNo (F := F) c i)) ⊢ |={Set.univ}=> iprop(
      (bigSep Finset.univ fun i : Fin ((K (F := F)).nSub 0) => part X I J fo fp d (tileNo (F := F) c i))
      ∗ ((bigSep Finset.univ fun i : Fin ((K (F := F)).nSub 0) => part X I J (gathO X I) (gathP X J) d (tileNo (F := F) c i))
          -∗ bigSep Finset.univ fun i : Fin ((K (F := F)).nSub 0) => part X I J (gathO X I) (gathP X J) d (tileNo (F := F) c i)))
  iintro H; imodintro
  isplitl [H]; · iexact H
  iintro H; iexact H

/-! ## The arrays dealt to the tiles and joined again -/

theorem lsets_disjoint : ∀ w ∈ (Finset.univ : Finset (Fin 32)), ∀ w' ∈ (Finset.univ : Finset (Fin 32)), w ≠ w' → Disjoint (lset w) (lset w') :=
  fun w _ w' _ hne => Finset.disjoint_left.mpr fun x hx hx' =>
    hne (Fin.ext ((Finset.mem_filter.mp hx).2.symm.trans (Finset.mem_filter.mp hx').2))
theorem rsets_disjoint : ∀ w ∈ (Finset.univ : Finset (Fin 32)), ∀ w' ∈ (Finset.univ : Finset (Fin 32)), w ≠ w' → Disjoint (rset w) (rset w') :=
  fun w _ w' _ hne => Finset.disjoint_left.mpr fun x hx hx' =>
    hne (Fin.ext ((Finset.mem_filter.mp hx).2.symm.trans (Finset.mem_filter.mp hx').2))
theorem lsets_cover : (Finset.univ : Finset (Fin 32)).biUnion lset = Finset.univ :=
  Finset.eq_univ_of_forall fun x => Finset.mem_biUnion.mpr ⟨x 0, Finset.mem_univ _, Finset.mem_filter.mpr ⟨Finset.mem_univ _, rfl⟩⟩
theorem rsets_cover : (Finset.univ : Finset (Fin 32)).biUnion rset = Finset.univ :=
  Finset.eq_univ_of_forall fun x => Finset.mem_biUnion.mpr ⟨x 0, Finset.mem_univ _, Finset.mem_filter.mpr ⟨Finset.mem_univ _, rfl⟩⟩

theorem si_blocks (d : Dev nD) (f : Buf (Elt F) (siLoc d)) :
    (siLoc d ↦{fullShare} f : sProp 𝕄) = bigSep Finset.univ fun w : Fin 32 => siLoc d ↦[lset w]{fullShare} f := by
  rw [← pointsTo_biUnion Finset.univ (ℓ := siLoc d) lset lsets_disjoint, lsets_cover]; try rfl
theorem ti_blocks (d : Dev nD) (f : Buf (Elt F) (tiLoc d)) :
    (tiLoc d ↦{fullShare} f : sProp 𝕄) = bigSep Finset.univ fun w : Fin 32 => tiLoc d ↦[lset w]{fullShare} f := by
  rw [← pointsTo_biUnion Finset.univ (ℓ := tiLoc d) lset lsets_disjoint, lsets_cover]; try rfl
theorem o_blocks (d : Dev nD) (f : Buf (Elt F) (oLoc d)) :
    (oLoc d ↦{fullShare} f : sProp 𝕄) = bigSep Finset.univ fun w : Fin 32 => oLoc d ↦[rset w]{fullShare} f := by
  rw [← pointsTo_biUnion Finset.univ (ℓ := oLoc d) rset rsets_disjoint, rsets_cover]; try rfl
theorem p_blocks (d : Dev nD) (f : Buf (Elt F) (pLoc d)) :
    (pLoc d ↦{fullShare} f : sProp 𝕄) = bigSep Finset.univ fun w : Fin 32 => pLoc d ↦[rset w]{fullShare} f := by
  rw [← pointsTo_biUnion Finset.univ (ℓ := pLoc d) rset rsets_disjoint, rsets_cover]; try rfl

/-- Core and subcore number the 32 tiles. -/
def tiles : Fin ((K (F := F)).nCore 0) × Fin ((K (F := F)).nSub 0) ≃ Fin 32 where
  toFun p := tileNo (F := F) p.1 p.2
  invFun w := (⟨w.val % 2, Nat.mod_lt _ (by decide)⟩, ⟨w.val / 2, Nat.div_lt_of_lt_mul w.isLt⟩)
  left_inv p := by
    have h0 : p.1.val < 2 := p.1.isLt
    refine Prod.ext (Fin.ext ?_) (Fin.ext ?_)
    · show (p.2.val * 2 + p.1.val) % 2 = p.1.val
      omega
    · show (p.2.val * 2 + p.1.val) / 2 = p.2.val
      omega
  right_inv w := Fin.ext (by
    show w.val / 2 * 2 + w.val % 2 = w.val
    omega)

theorem bigSep_tiles (Φ : Fin 32 → sProp 𝕄) :
    (bigSep Finset.univ fun c : Fin ((K (F := F)).nCore 0) => bigSep Finset.univ fun i : Fin ((K (F := F)).nSub 0) => Φ (tileNo (F := F) c i))
      = bigSep Finset.univ Φ := by
  rw [BI.bigSep_univ_equiv (tiles (F := F)) Φ, ← Finset.univ_product_univ, SparseCore.bigSep_product]
  rfl

/-- The parts of all tiles are the four other arrays whole and the tiles' shares of the table. -/
theorem parts_eq (d : Dev nD) :
    (bigSep Finset.univ fun w : Fin 32 => part X I J fo fp d w)
      = (iprop((siLoc d ↦{fullShare} I d) ∗ (tiLoc d ↦{fullShare} J d) ∗ (bigSep Finset.univ fun w : Fin 32 => xLoc d ↦{xShare w} X d)
          ∗ (oLoc d ↦{fullShare} fo d) ∗ (pLoc d ↦{fullShare} fp d)) : sProp 𝕄) := by
  rw [bigSep_sep', bigSep_sep', bigSep_sep', bigSep_sep', ← si_blocks, ← ti_blocks, ← o_blocks, ← p_blocks]

/-- The share of the table that the TensorCore keeps. -/
abbrev xKept (d : Dev nD) : sProp 𝕄 := xLoc d ↦{Transfers.shareDrop fullShare 32} X d

/-- The five arrays whole, the results at `fo` and `fp`. -/
abbrev five (d : Dev nD) : sProp 𝕄 :=
  iprop((xLoc d ↦{fullShare} X d) ∗ (siLoc d ↦{fullShare} I d) ∗ (tiLoc d ↦{fullShare} J d)
    ∗ (oLoc d ↦{fullShare} fo d) ∗ (pLoc d ↦{fullShare} fp d))

theorem deal (d : Dev nD) :
    five X I J fo fp d ⊢ (iprop((bigSep Finset.univ fun c : Fin ((K (F := F)).nCore 0) => (P X I J fo fp).st 0 d c) ∗ xKept X d) : sProp 𝕄) := by
  rw [show (bigSep Finset.univ fun c : Fin ((K (F := F)).nCore 0) => (P X I J fo fp).st 0 d c)
      = bigSep Finset.univ fun c : Fin ((K (F := F)).nCore 0) => bigSep Finset.univ fun i : Fin ((K (F := F)).nSub 0) => part X I J fo fp d (tileNo (F := F) c i) from rfl,
    bigSep_tiles, parts_eq]
  iintro ⟨Hx, Hi, Hj, Ho, Hp⟩
  ihave H := (Transfers.pointsTo_toks_split fullShare 32) $$ Hx
  icases H with ⟨Hk, Hx⟩
  isplitr [Hk]
  · isplitl [Hi]; · iexact Hi
    isplitl [Hj]; · iexact Hj
    isplitl [Hx]; · iexact Hx
    isplitl [Ho] <;> iassumption
  iexact Hk

theorem undeal (d : Dev nD) :
    iprop((bigSep Finset.univ fun c : Fin ((K (F := F)).nCore 0) => (P X I J fo fp).dn 0 d c) ∗ xKept X d) ⊢ (five X I J (gathO X I) (gathP X J) d : sProp 𝕄) := by
  rw [show (bigSep Finset.univ fun c : Fin ((K (F := F)).nCore 0) => (P X I J fo fp).dn 0 d c)
      = bigSep Finset.univ fun c : Fin ((K (F := F)).nCore 0) => bigSep Finset.univ fun i : Fin ((K (F := F)).nSub 0) =>
          part X I J (gathO X I) (gathP X J) d (tileNo (F := F) c i) from rfl,
    bigSep_tiles, parts_eq]
  iintro ⟨⟨Hi, Hj, Hx, Ho, Hp⟩, Hk⟩
  isplitl [Hx Hk]
  · iapply (Transfers.pointsTo_toks_join fullShare 32); isplitl [Hk] <;> iassumption
  isplitl [Hi]; · iexact Hi
  isplitl [Hj]; · iexact Hj
  isplitl [Ho] <;> iassumption

end Parts

end Cert.Proof.I

end
-- ==== Proof.TailRun.lean ====
/-
  The TensorCore pipeline that follows the SparseCore call, one grid point at a time: from a block of gathered source
  rows and the block of gathered target rows, both staged, the body fills the two result blocks. Here: what the run of
  the body leaves, as the two payloads the body stores, at the blocks it loaded.
-/
module

public import proofs.«01_k».proof.Proof.ScTile
public import Idealize.ShloMosaic.Lib.Pipeline.ValueKit
public import Idealize.ShloMosaic.Lib.VecWindow

@[expose] public section

set_option maxRecDepth 16384

noncomputable section

namespace Cert.Proof.I

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F] [Named F]

local notation "𝕄" => MT nD τ sig (HIx 1) (Elt F) ℕ UU ℕ

/-- From the two staged blocks and any contents of the two result buffers, the body runs to its end with the staged
    blocks as they were and the results at the two payloads. -/
theorem tail_run (d : Dev nD) (i : grid3.Coords)
    (M0 : Memref sig .tc .vmem S2048x128 .f32) (h0 : M0.IsWhole) (M1 : Memref sig .tc .vmem S2048x128 .f32) (h1 : M1.IsWhole)
    (M2 : Memref sig .tc .vmem S128x16 .f32) (h2 : M2.IsWhole) (M3 : Memref sig .tc .vmem S128x16 .f32) (h3 : M3.IsWhole)
    (X0 X1 : S2048x128.Idx → Elt F .f32) (Y2 Y3 : S128x16.Idx → Elt F .f32) (Q : PUnit → sProp 𝕄) :
    (iprop(owns (d : Thread nD τ) M0 fullShare X0 ∗ owns (d : Thread nD τ) M1 fullShare X1
        ∗ owns (d : Thread nD τ) M2 fullShare Y2 ∗ owns (d : Thread nD τ) M3 fullShare Y3
        ∗ (iprop(owns (d : Thread nD τ) M0 fullShare X0 ∗ owns (d : Thread nD τ) M1 fullShare X1
          ∗ owns (d : Thread nD τ) M2 fullShare (k3_pay5 X0 X1) ∗ owns (d : Thread nD τ) M3 fullShare (k3_pay6 X0 X1)) -∗ Q ⟨⟩)) : sProp 𝕄)
      ⊢ wp (M := 𝕄) frame (wpE (defs₀ (F := F)) 𝒱₀ (d : Thread nD τ) none) Set.univ (cc3__tail_body i M0 h0 M1 h1 M2 h2 M3 h3) Q := by
  unfold owns
  rw [h0.set_eq_univ, h1.set_eq_univ, h2.set_eq_univ, h3.set_eq_univ]
  iintro ⟨⟨%f0, %e0, H0⟩, ⟨%f1, %e1, H1⟩, ⟨%f2, -, H2⟩, ⟨%f3, -, H3⟩, Hk⟩
  subst e0 e1
  simp only [cc3__tail_body_eq_skeleton]; unfold cc3__tail_body_skel
  sl_exec
  sl_step
  iapply Hk
  isplitl [H0]; · iexists _; isplitr; swap; · iexact H0
                  ipureintro; rfl
  isplitl [H1]; · iexists _; isplitr; swap; · iexact H1
                  ipureintro; rfl
  isplitl [H2]
  · iexists _; isplitr; swap; · iexact H2
    ipureintro
    frame_out
    exact View.read_writes_full (s := S128x16) M2.view f2 inb_S128x16_S128x16_0_0 _ _
  iexists _; isplitr; swap; · iexact H3
  ipureintro
  frame_out
  exact View.read_writes_full (s := S128x16) M3.view f3 inb_S128x16_S128x16_0_0 _ _

end Cert.Proof.I

end
-- ==== Proof.NormRun.lean ====
/-
  The first TensorCore pipeline, one grid point at a time: from a block of rows and the six vectors of its half, both
  staged, the body reflects the rows in the six vectors, divides each row by its norm and fills the result block. Here:
  what the run of the body leaves, as the payload the body stores, at the blocks it loaded.
-/
module

public import proofs.«01_k».proof.Proof.ScTile
public import Idealize.ShloMosaic.Lib.Pipeline.ValueKit
public import Idealize.ShloMosaic.Lib.VecWindow

@[expose] public section

set_option maxRecDepth 16384

noncomputable section

namespace Cert.Proof.I

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F] [Named F]

local notation "𝕄" => MT nD τ sig (HIx 1) (Elt F) ℕ UU ℕ

/-- Vector `j` of the six. -/
abbrev vecAt (X : Vec F S1x6x64 .f32) (j : ℕ) (h : ∀ a, (![0, j, 0] : Fin 3 → ℕ) a + S1x1x64.size a ≤ S1x6x64.size a) : Vec F S1x1x64 .f32 :=
  VecWindow.window X ![0, j, 0] S1x1x64.size h

/-- The rows `X` reflected in the first three vectors of `v`. -/
def half1 (X : Vec F S512x64 .f32) (v : Vec F S1x6x64 .f32) : FVec F S512x64 .f32 :=
  k0_pay2 X (vecAt v 0 inb_S1x6x64_S1x1x64_0_0_0) (vecAt v 1 inb_S1x6x64_S1x1x64_0_1_0) (vecAt v 2 inb_S1x6x64_S1x1x64_0_2_0)

/-- The block the body stores. -/
def normBlk (X : Vec F S512x64 .f32) (v : Vec F S1x6x64 .f32) : FVec F S512x64 .f32 :=
  k0_pay1 (k0_pay3 (half1 X v) (vecAt v 3 inb_S1x6x64_S1x1x64_0_3_0) (vecAt v 4 inb_S1x6x64_S1x1x64_0_4_0) (vecAt v 5 inb_S1x6x64_S1x1x64_0_5_0))
    (k0_pay4 (half1 X v) (vecAt v 3 inb_S1x6x64_S1x1x64_0_3_0) (vecAt v 4 inb_S1x6x64_S1x1x64_0_4_0) (vecAt v 5 inb_S1x6x64_S1x1x64_0_5_0))
    k0_pay5

/-- From the two staged blocks and any contents of the result's buffer, the body runs to its end with the staged blocks as
    they were and the result at the payload. -/
theorem norm_run (d : Dev nD) (i : grid0.Coords)
    (M0 : Memref sig .tc .vmem S512x64 .f32) (h0 : M0.IsWhole) (M1 : Memref sig .tc .vmem S1x6x64 .f32) (h1 : M1.IsWhole)
    (M2 : Memref sig .tc .vmem S512x64 .f32) (h2 : M2.IsWhole)
    (X0 : S512x64.Idx → Elt F .f32) (X1 : S1x6x64.Idx → Elt F .f32) (Y2 : S512x64.Idx → Elt F .f32) (Q : PUnit → sProp 𝕄) :
    (iprop(owns (d : Thread nD τ) M0 fullShare X0 ∗ owns (d : Thread nD τ) M1 fullShare X1 ∗ owns (d : Thread nD τ) M2 fullShare Y2
        ∗ (iprop(owns (d : Thread nD τ) M0 fullShare X0 ∗ owns (d : Thread nD τ) M1 fullShare X1
          ∗ owns (d : Thread nD τ) M2 fullShare (normBlk X0 X1)) -∗ Q ⟨⟩)) : sProp 𝕄)
      ⊢ wp (M := 𝕄) frame (wpE (defs₀ (F := F)) 𝒱₀ (d : Thread nD τ) none) Set.univ (cc0__hidden_norm_body i M0 h0 M1 h1 M2 h2) Q := by
  unfold owns
  rw [h0.set_eq_univ, h1.set_eq_univ, h2.set_eq_univ]
  iintro ⟨⟨%f0, %e0, H0⟩, ⟨%f1, %e1, H1⟩, ⟨%f2, -, H2⟩, Hk⟩
  subst e0 e1
  simp only [cc0__hidden_norm_body_eq_skeleton]; unfold cc0__hidden_norm_body_skel
  simp only [k0_part1_eq_skeleton, k0_part2_eq_skeleton]; unfold k0_part1_skel k0_part2_skel
  sl_exec
  sl_step
  iapply Hk
  isplitl [H0]; · iexists _; isplitr; swap; · iexact H0
                  ipureintro; rfl
  isplitl [H1]; · iexists _; isplitr; swap; · iexact H1
                  ipureintro; rfl
  iexists _; isplitr; swap; · iexact H2
  ipureintro
  frame_out
  refine (View.read_writes_full (s := S512x64) M2.view f2 inb_S512x64_S512x64_0_0 _ _).trans ?_
  rfl

end Cert.Proof.I

end
-- ==== Proof.TopSpec.lean ====
/-
  The second TensorCore call's body as a few array operations: 64 column blocks inserted into ten running
  maxima per lane, then seven merges of the ten lists of one half of the lanes with those of the other half.
-/
module

public import proofs.«01_k».proof.Proof.Gen.KernelIdeal.Skeleton

@[expose] public section

set_option maxRecDepth 65536

noncomputable section

namespace Cert.Proof.I

open Cert.KernelIdeal Cert.KernelIdeal.Gen
open Idealize.ShloMosaic Idealize.SL.Sem

variable {F : FTy → Type} [FloatOps F] [Named F]

/-- What is handed on to place `r` when `x` goes into the lists `t`. -/
def carry {s : Shape} (t : Nat → FVec F s .bf16) (x : FVec F s .bf16) (r : Nat) : FVec F s .bf16 :=
  Nat.rec x (fun n y => minimumf (t n) y) r

/-- The lists `t` with `x` put in. -/
def insert {s : Shape} (t : Nat → FVec F s .bf16) (x : FVec F s .bf16) (r : Nat) : FVec F s .bf16 :=
  maximumf (t r) (carry t x r)

theorem block_slices (rb c : Nat) (hr : rb < 4) (hc : c < 64) : S256x8192.Slices ![rb * 64, c * 128] S64x128 := by
  refine ⟨rfl, fun a => ?_⟩
  have h : a = 0 ∨ a = 1 := by have := a.isLt; rcases a with ⟨_ | _ | n, hn⟩; exact .inl rfl; exact .inr rfl; exact absurd hn (by show ¬ n + 1 + 1 < 2; omega)
  rcases h with rfl | rfl
  · show rb * 64 + 64 ≤ 256; omega
  · show c * 128 + 128 ≤ 8192; omega

def lists (s : FVec F S256x8192 .bf16) (rb : Nat) (hr : rb < 4) (n : Nat) : n ≤ 64 → Nat → FVec F S64x128 .bf16 :=
  Nat.rec (motive := fun n => n ≤ 64 → Nat → FVec F S64x128 .bf16)
    (fun _ _ => broadcast S64x128 (Named.named κ "least" 0xFF62#16 : F .bf16))
    (fun c t h => insert (t (Nat.le_of_succ_le h)) (extractStridedSlice S64x128 ![rb * 64, c * 128] s (block_slices rb c hr h))) n

def mergeTo {s : Shape} (a b : Nat → FVec F s .bf16) (k n : Nat) : FVec F s .bf16 :=
  Nat.rec (maximumf (a k) (b k)) (fun i m => maximumf m (minimumf (a i) (b (k - 1 - i)))) n

def halve {s : Shape} (t : Shape) (o : Fin s.rank → Nat) (o' : Fin s.rank → Nat) (h : s.Slices o t) (h' : s.Slices o' t)
    (x : Nat → FVec F s .bf16) (k : Nat) : FVec F t .bf16 :=
  mergeTo (fun i => extractStridedSlice t o (x i) h) (fun i => extractStridedSlice t o' (x i) h') k k

/-- The ten lists of one row block after all merges, one column each. -/
def best (s : FVec F S256x8192 .bf16) (rb : Nat) (hr : rb < 4) : Nat → FVec F S64x1 .bf16 :=
  halve S64x1 ![0, 0] ![0, 1] slices_S64x2_o0_0_S64x1 slices_S64x2_o0_1_S64x1 <|
  halve S64x2 ![0, 0] ![0, 2] slices_S64x4_o0_0_S64x2 slices_S64x4_o0_2_S64x2 <|
  halve S64x4 ![0, 0] ![0, 4] slices_S64x8_o0_0_S64x4 slices_S64x8_o0_4_S64x4 <|
  halve S64x8 ![0, 0] ![0, 8] slices_S64x16_o0_0_S64x8 slices_S64x16_o0_8_S64x8 <|
  halve S64x16 ![0, 0] ![0, 16] slices_S64x32_o0_0_S64x16 slices_S64x32_o0_16_S64x16 <|
  halve S64x32 ![0, 0] ![0, 32] slices_S64x64_o0_0_S64x32 slices_S64x64_o0_32_S64x32 <|
  halve S64x64 ![0, 0] ![0, 64] slices_S64x128_o0_0_S64x64 slices_S64x128_o0_64_S64x64 <|
  lists s rb hr 64 (Nat.le_refl 64)

/-- The sum of the first `n + 1` lists. -/
def totalTo (x : Nat → FVec F S64x1 .bf16) (n : Nat) : FVec F S64x1 .f32 :=
  Nat.rec (extf .f32 (x 0) bitsLt_bf16_f32) (fun i y => addf y (extf .f32 (x (i + 1)) bitsLt_bf16_f32)) n

def total (s : FVec F S256x8192 .bf16) (rb : Nat) (hr : rb < 4) : FVec F S64x1 .f32 :=
  totalTo (best s rb hr) 9

/-- The block the body writes: the rows read a second time beside their scaled totals and zeros. -/
def topRows (s : FVec F S256x8192 .bf16) (x : Vec F S256x64 .f32) : FVec F S256x128 .f32 :=
  concatenate S256x128 1 [⟨S256x64, shapeCast S256x64 x shapeCasts_S256x64_S256x64⟩,
    ⟨S256x64, concatenate S256x64 1
      [⟨S256x1, mulf (concatenate S256x1 0
          [⟨S64x1, total s 0 (by decide)⟩, ⟨S64x1, total s 1 (by decide)⟩, ⟨S64x1, total s 2 (by decide)⟩, ⟨S64x1, total s 3 (by decide)⟩]
          concatenates_S64x1_S64x1_S64x1_S64x1_S256x1_d0)
        (broadcast S256x1 (Named.named κ "tenth" 0x3DCCCCCD#32 : F .f32))⟩,
       ⟨S256x63, broadcast S256x63 (Scalar.ofBits .f32 0x00000000#32 : F .f32)⟩] concatenates_S256x1_S256x63_S256x64_d1⟩]
    concatenates_S256x64_S256x64_S256x128_d1

def topBody (arg1 : Memref sig .tc .vmem S256x64 .f32) (arg2 : Memref sig .tc .vmem S8192x64 .f32)
    (arg3 : Memref sig .tc .vmem S256x128 .f32) : Prog (TpuEff nD τ sig (Elt F) Λ₀ .tc) PUnit := do
  let v0 : Vec F S256x64 .f32 ← Prog.lift (.load arg1 (Rect.unit (s := S256x64) ![0, 0] S256x64.size inb_S256x64_S256x64_0_0).toLoadRect (View.loadsAt_vmem h_S256x64))
  let v2 : Vec F S8192x64 .f32 ← Prog.lift (.load arg2 (Rect.unit (s := S8192x64) ![0, 0] S8192x64.size inb_S8192x64_S8192x64_0_0).toLoadRect (View.loadsAt_vmem h_S8192x64))
  let x : Vec F S256x64 .f32 ← Prog.lift (.load arg1 (Rect.unit (s := S256x64) ![0, 0] S256x64.size inb_S256x64_S256x64_0_0).toLoadRect (View.loadsAt_vmem h_S256x64))
  let _ : Vec F S256x128 .f32 ← Prog.lift (.load arg3 (Rect.unit (s := S256x128) ![0, 0] S256x128.size inb_S256x128_S256x128_0_0).toLoadRect (View.loadsAt_vmem h_S256x128))
  Prog.lift (.store arg3 (Rect.unit (s := S256x128) ![0, 0] S256x128.size inb_S256x128_S256x128_0_0) (topRows (k1_pay2 v0 v2) x) Finset.univ (View.stores_vmem_bits_univ h_S256x128 rfl) (.inl rfl))
  pure ⟨⟩

end Cert.Proof.I

end
-- ==== Proof.TopRun.lean ====
/-
  The second TensorCore pipeline, one grid point at a time: from a block of normalised rows and all the normalised rows
  of the other half, both staged, the body fills the result block. Here: the run of the body as a few array operations
  (`topBody`) leaves the result at `topRows`.
-/
module

public import proofs.«01_k».proof.Proof.ScTile
public import proofs.«01_k».proof.Proof.TopSpec
public import Idealize.ShloMosaic.Lib.Pipeline.ValueKit
public import Idealize.ShloMosaic.Lib.VecWindow

@[expose] public section

set_option maxRecDepth 16384

noncomputable section

namespace Cert.Proof.I

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F] [Named F]

local notation "𝕄" => MT nD τ sig (HIx 1) (Elt F) ℕ UU ℕ

/-- What the body stores, from the two staged blocks. -/
def topBlk (X : Vec F S256x64 .f32) (Y : Vec F S8192x64 .f32) : FVec F S256x128 .f32 := topRows (k1_pay2 X Y) X

/-- From the two staged blocks and any contents of the result's buffer, the body runs to its end with the staged blocks as
    they were, and the result at the payload. -/
theorem topBody_run (d : Dev nD)
    (M0 : Memref sig .tc .vmem S256x64 .f32) (h0 : M0.IsWhole) (M1 : Memref sig .tc .vmem S8192x64 .f32) (h1 : M1.IsWhole)
    (M2 : Memref sig .tc .vmem S256x128 .f32) (h2 : M2.IsWhole)
    (X0 : S256x64.Idx → Elt F .f32) (X1 : S8192x64.Idx → Elt F .f32) (Y2 : S256x128.Idx → Elt F .f32) (Q : PUnit → sProp 𝕄) :
    (iprop(owns (d : Thread nD τ) M0 fullShare X0 ∗ owns (d : Thread nD τ) M1 fullShare X1 ∗ owns (d : Thread nD τ) M2 fullShare Y2
        ∗ (iprop(owns (d : Thread nD τ) M0 fullShare X0 ∗ owns (d : Thread nD τ) M1 fullShare X1
          ∗ owns (d : Thread nD τ) M2 fullShare (topBlk X0 X1)) -∗ Q ⟨⟩)) : sProp 𝕄)
      ⊢ wp (M := 𝕄) frame (wpE (defs₀ (F := F)) 𝒱₀ (d : Thread nD τ) none) Set.univ (topBody M0 M1 M2) Q := by
  unfold owns
  rw [h0.set_eq_univ, h1.set_eq_univ, h2.set_eq_univ]
  iintro ⟨⟨%f0, %e0, H0⟩, ⟨%f1, %e1, H1⟩, ⟨%f2, -, H2⟩, Hk⟩
  subst e0 e1
  unfold topBody
  sl_exec
  sl_step
  iapply Hk
  isplitl [H0]; · iexists _; isplitr; swap; · iexact H0
                  ipureintro; rfl
  isplitl [H1]; · iexists _; isplitr; swap; · iexact H1
                  ipureintro; rfl
  iexists _; isplitr; swap; · iexact H2
  ipureintro
  frame_out
  refine (View.read_writes_full (s := S256x128) M2.view f2 inb_S256x128_S256x128_0_0 _ _).trans ?_
  unfold topBlk
  simp only [View.readAt_full (s := S256x64), View.readAt_full (s := S8192x64)]

end Cert.Proof.I

end
-- ==== Proof.TopCuts.lean ====
/-
  The second TensorCore call's body as a few array operations: 64 column blocks inserted into ten running
  maxima per lane, then seven merges of the ten lists of one half of the lanes with those of the other half.
  The body is cut into stretches of sixty statements; the values at each cut are named, and each stretch takes
  the values at one cut to those at the next.
-/
module

public import proofs.«01_k».proof.Proof.TopSpec

@[expose] public section

set_option maxRecDepth 65536
set_option maxHeartbeats 0

noncomputable section

namespace Cert.Proof.I

universe w

open Cert.KernelIdeal Cert.KernelIdeal.Gen
open Idealize.ShloMosaic Idealize.SL.Sem

variable {F : FTy → Type} [FloatOps F] [Named F]

/-- A stretch that only computes values, followed by the rest at those values. -/
theorem step {E : Type → Type w} {α β : Type} {p : Prog E α} (a : α) {f : α → Prog E β} {r : Prog E β} (hp : p = pure a) (hf : f a = r) :
    (p >>= f) = r := by
  subst hp; exact hf

/-- A stretch that loads twice and then computes values, followed by the rest at those values. -/
theorem step_loads {E : Type → Type w} {α β γ δ : Type} {p : Prog E α} {e : Prog E γ} {e' : Prog E δ} (a : γ → δ → α) {f : α → Prog E β}
    {r : γ → δ → Prog E β} (hp : p = (e >>= fun v => e' >>= fun w => pure (a v w))) (hf : ∀ v w, f (a v w) = r v w) :
    (p >>= f) = (e >>= fun v => e' >>= fun w => r v w) := by
  subst hp; simp only [bind_assoc, pure_bind, hf]

/-- Column block `n` of row block `rb`. -/
abbrev chunk (s : FVec F S256x8192 .bf16) (rb : Nat) (hr : rb < 4) (n : Nat) (hn : n < 64) : FVec F S64x128 .bf16 :=
  extractStridedSlice S64x128 ![rb * 64, n * 128] s (block_slices rb n hr hn)

/-- The values at a cut 3 places into putting `x` into the lists `t`, place 3 included. -/
abbrev mid0 (t : Nat → FVec F S64x128 .bf16) (x : FVec F S64x128 .bf16) : Σ' (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16), FVec F S64x128 .bf16 :=
  ⟨t 3, t 4, t 5, t 6, t 7, t 8, t 9, insert t x 0, insert t x 1, insert t x 2, carry t x 3, insert t x 3⟩

/-- The values at the cut in column block `n` of row block 0. -/
abbrev cut0 (s : FVec F S256x8192 .bf16) (n : Nat) (hn : n < 64) : Σ' (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16), FVec F S64x128 .bf16 :=
  mid0 (lists s 0 (by decide) n (Nat.le_of_lt hn)) (chunk s 0 (by decide) n hn)

/-- The values at a cut 4 places into putting `x` into the lists `t`. -/
abbrev mid1 (t : Nat → FVec F S64x128 .bf16) (x : FVec F S64x128 .bf16) : Σ' (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16), FVec F S64x128 .bf16 :=
  ⟨t 4, t 5, t 6, t 7, t 8, t 9, insert t x 0, insert t x 1, insert t x 2, insert t x 3, carry t x 4⟩

/-- The values at the cut in column block `n` of row block 1. -/
abbrev cut1 (s : FVec F S256x8192 .bf16) (n : Nat) (hn : n < 64) : Σ' (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16), FVec F S64x128 .bf16 :=
  mid1 (lists s 1 (by decide) n (Nat.le_of_lt hn)) (chunk s 1 (by decide) n hn)

/-- The values at a cut 4 places into putting `x` into the lists `t`, place 4 included. -/
abbrev mid2 (t : Nat → FVec F S64x128 .bf16) (x : FVec F S64x128 .bf16) : Σ' (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16), FVec F S64x128 .bf16 :=
  ⟨t 4, t 5, t 6, t 7, t 8, t 9, insert t x 0, insert t x 1, insert t x 2, insert t x 3, carry t x 4, insert t x 4⟩

/-- The values at the cut in column block `n` of row block 2. -/
abbrev cut2 (s : FVec F S256x8192 .bf16) (n : Nat) (hn : n < 64) : Σ' (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16), FVec F S64x128 .bf16 :=
  mid2 (lists s 2 (by decide) n (Nat.le_of_lt hn)) (chunk s 2 (by decide) n hn)

/-- The values at a cut 5 places into putting `x` into the lists `t`. -/
abbrev mid3 (t : Nat → FVec F S64x128 .bf16) (x : FVec F S64x128 .bf16) : Σ' (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16), FVec F S64x128 .bf16 :=
  ⟨t 5, t 6, t 7, t 8, t 9, insert t x 0, insert t x 1, insert t x 2, insert t x 3, insert t x 4, carry t x 5⟩

/-- The values at the cut in column block `n` of row block 3. -/
abbrev cut3 (s : FVec F S256x8192 .bf16) (n : Nat) (hn : n < 64) : Σ' (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16), FVec F S64x128 .bf16 :=
  mid3 (lists s 3 (by decide) n (Nat.le_of_lt hn)) (chunk s 3 (by decide) n hn)

/-- The ten lists of a row block, before any merge. -/
def lev0 (s : FVec F S256x8192 .bf16) (rb : Nat) (hr : rb < 4) : Nat → FVec F S64x128 .bf16 := lists s rb hr 64 (Nat.le_refl 64)

/-- The first halves of the ten lists 0 merges on. -/
def lo0 (s : FVec F S256x8192 .bf16) (rb : Nat) (hr : rb < 4) (i : Nat) : FVec F S64x64 .bf16 :=
  extractStridedSlice S64x64 ![0, 0] (lev0 s rb hr i) slices_S64x128_o0_0_S64x64
/-- Their second halves. -/
def hi0 (s : FVec F S256x8192 .bf16) (rb : Nat) (hr : rb < 4) (i : Nat) : FVec F S64x64 .bf16 :=
  extractStridedSlice S64x64 ![0, 64] (lev0 s rb hr i) slices_S64x128_o0_64_S64x64
/-- The ten lists 1 merge on. -/
def lev1 (s : FVec F S256x8192 .bf16) (rb : Nat) (hr : rb < 4) (k : Nat) : FVec F S64x64 .bf16 := mergeTo (lo0 s rb hr) (hi0 s rb hr) k k

/-- The first halves of the ten lists 1 merges on. -/
def lo1 (s : FVec F S256x8192 .bf16) (rb : Nat) (hr : rb < 4) (i : Nat) : FVec F S64x32 .bf16 :=
  extractStridedSlice S64x32 ![0, 0] (lev1 s rb hr i) slices_S64x64_o0_0_S64x32
/-- Their second halves. -/
def hi1 (s : FVec F S256x8192 .bf16) (rb : Nat) (hr : rb < 4) (i : Nat) : FVec F S64x32 .bf16 :=
  extractStridedSlice S64x32 ![0, 32] (lev1 s rb hr i) slices_S64x64_o0_32_S64x32
/-- The ten lists 2 merges on. -/
def lev2 (s : FVec F S256x8192 .bf16) (rb : Nat) (hr : rb < 4) (k : Nat) : FVec F S64x32 .bf16 := mergeTo (lo1 s rb hr) (hi1 s rb hr) k k

/-- The first halves of the ten lists 2 merges on. -/
def lo2 (s : FVec F S256x8192 .bf16) (rb : Nat) (hr : rb < 4) (i : Nat) : FVec F S64x16 .bf16 :=
  extractStridedSlice S64x16 ![0, 0] (lev2 s rb hr i) slices_S64x32_o0_0_S64x16
/-- Their second halves. -/
def hi2 (s : FVec F S256x8192 .bf16) (rb : Nat) (hr : rb < 4) (i : Nat) : FVec F S64x16 .bf16 :=
  extractStridedSlice S64x16 ![0, 16] (lev2 s rb hr i) slices_S64x32_o0_16_S64x16
/-- The ten lists 3 merges on. -/
def lev3 (s : FVec F S256x8192 .bf16) (rb : Nat) (hr : rb < 4) (k : Nat) : FVec F S64x16 .bf16 := mergeTo (lo2 s rb hr) (hi2 s rb hr) k k

/-- The first halves of the ten lists 3 merges on. -/
def lo3 (s : FVec F S256x8192 .bf16) (rb : Nat) (hr : rb < 4) (i : Nat) : FVec F S64x8 .bf16 :=
  extractStridedSlice S64x8 ![0, 0] (lev3 s rb hr i) slices_S64x16_o0_0_S64x8
/-- Their second halves. -/
def hi3 (s : FVec F S256x8192 .bf16) (rb : Nat) (hr : rb < 4) (i : Nat) : FVec F S64x8 .bf16 :=
  extractStridedSlice S64x8 ![0, 8] (lev3 s rb hr i) slices_S64x16_o0_8_S64x8
/-- The ten lists 4 merges on. -/
def lev4 (s : FVec F S256x8192 .bf16) (rb : Nat) (hr : rb < 4) (k : Nat) : FVec F S64x8 .bf16 := mergeTo (lo3 s rb hr) (hi3 s rb hr) k k

/-- The first halves of the ten lists 4 merges on. -/
def lo4 (s : FVec F S256x8192 .bf16) (rb : Nat) (hr : rb < 4) (i : Nat) : FVec F S64x4 .bf16 :=
  extractStridedSlice S64x4 ![0, 0] (lev4 s rb hr i) slices_S64x8_o0_0_S64x4
/-- Their second halves. -/
def hi4 (s : FVec F S256x8192 .bf16) (rb : Nat) (hr : rb < 4) (i : Nat) : FVec F S64x4 .bf16 :=
  extractStridedSlice S64x4 ![0, 4] (lev4 s rb hr i) slices_S64x8_o0_4_S64x4
/-- The ten lists 5 merges on. -/
def lev5 (s : FVec F S256x8192 .bf16) (rb : Nat) (hr : rb < 4) (k : Nat) : FVec F S64x4 .bf16 := mergeTo (lo4 s rb hr) (hi4 s rb hr) k k

/-- The first halves of the ten lists 5 merges on. -/
def lo5 (s : FVec F S256x8192 .bf16) (rb : Nat) (hr : rb < 4) (i : Nat) : FVec F S64x2 .bf16 :=
  extractStridedSlice S64x2 ![0, 0] (lev5 s rb hr i) slices_S64x4_o0_0_S64x2
/-- Their second halves. -/
def hi5 (s : FVec F S256x8192 .bf16) (rb : Nat) (hr : rb < 4) (i : Nat) : FVec F S64x2 .bf16 :=
  extractStridedSlice S64x2 ![0, 2] (lev5 s rb hr i) slices_S64x4_o0_2_S64x2
/-- The ten lists 6 merges on. -/
def lev6 (s : FVec F S256x8192 .bf16) (rb : Nat) (hr : rb < 4) (k : Nat) : FVec F S64x2 .bf16 := mergeTo (lo5 s rb hr) (hi5 s rb hr) k k

/-- The first halves of the ten lists 6 merges on. -/
def lo6 (s : FVec F S256x8192 .bf16) (rb : Nat) (hr : rb < 4) (i : Nat) : FVec F S64x1 .bf16 :=
  extractStridedSlice S64x1 ![0, 0] (lev6 s rb hr i) slices_S64x2_o0_0_S64x1
/-- Their second halves. -/
def hi6 (s : FVec F S256x8192 .bf16) (rb : Nat) (hr : rb < 4) (i : Nat) : FVec F S64x1 .bf16 :=
  extractStridedSlice S64x1 ![0, 1] (lev6 s rb hr i) slices_S64x2_o0_1_S64x1
/-- The ten lists 7 merges on. -/
def lev7 (s : FVec F S256x8192 .bf16) (rb : Nat) (hr : rb < 4) (k : Nat) : FVec F S64x1 .bf16 := mergeTo (lo6 s rb hr) (hi6 s rb hr) k k

/-- The values at the cut between two merges, row block 0. -/
abbrev gap0 {u v : Shape} (y : Nat → FVec F u .bf16) (a b : Nat → FVec F v .bf16) : Σ' (_ : FVec F u .bf16) (_ : FVec F u .bf16) (_ : FVec F u .bf16) (_ : FVec F u .bf16) (_ : FVec F v .bf16) (_ : FVec F v .bf16) (_ : FVec F v .bf16) (_ : FVec F v .bf16) (_ : FVec F v .bf16) (_ : FVec F v .bf16) (_ : FVec F v .bf16), FVec F v .bf16 :=
  ⟨y 6, y 7, y 8, y 9, a 0, a 1, a 2, a 3, a 4, a 5, a 6, a 7⟩

/-- The values at the cut within a merge, row block 0. -/
abbrev seam0 {v : Shape} (a b : Nat → FVec F v .bf16) : Σ' (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16), FVec F v .bf16 :=
  ⟨a 8, a 9, b 0, b 1, b 2, b 3, b 4, b 5, b 6, b 7, b 8, b 9, mergeTo a b 0 0, mergeTo a b 1 1, mergeTo a b 2 2, mergeTo a b 3 3, mergeTo a b 4 4, mergeTo a b 5 5, mergeTo a b 6 5, minimumf (a 5) (b 0)⟩

/-- The values at the cut before the first merge, row block 0. -/
abbrev start0 {u v : Shape} (y : Nat → FVec F u .bf16) (a b : Nat → FVec F v .bf16) : Σ' (_ : FVec F u .bf16) (_ : FVec F u .bf16) (_ : FVec F u .bf16) (_ : FVec F u .bf16) (_ : FVec F u .bf16) (_ : FVec F u .bf16) (_ : FVec F u .bf16) (_ : FVec F u .bf16) (_ : FVec F u .bf16) (_ : FVec F u .bf16) (_ : FVec F v .bf16) (_ : FVec F v .bf16) (_ : FVec F v .bf16) (_ : FVec F v .bf16) (_ : FVec F v .bf16) (_ : FVec F v .bf16) (_ : FVec F v .bf16), FVec F v .bf16 :=
  ⟨y 0, y 1, y 2, y 3, y 4, y 5, y 6, y 7, y 8, y 9, a 0, a 1, a 2, a 3, a 4, a 5, a 6, a 7⟩

/-- The values at the cut between two merges, row block 1. -/
abbrev gap1 {u v : Shape} (y : Nat → FVec F u .bf16) (a b : Nat → FVec F v .bf16) : Σ' (_ : FVec F u .bf16) (_ : FVec F u .bf16) (_ : FVec F u .bf16) (_ : FVec F v .bf16) (_ : FVec F v .bf16) (_ : FVec F v .bf16) (_ : FVec F v .bf16) (_ : FVec F v .bf16) (_ : FVec F v .bf16) (_ : FVec F v .bf16) (_ : FVec F v .bf16), FVec F v .bf16 :=
  ⟨y 7, y 8, y 9, a 0, a 1, a 2, a 3, a 4, a 5, a 6, a 7, a 8⟩

/-- The values at the cut within a merge, row block 1. -/
abbrev seam1 {v : Shape} (a b : Nat → FVec F v .bf16) : Σ' (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16), FVec F v .bf16 :=
  ⟨a 9, b 0, b 1, b 2, b 3, b 4, b 5, b 6, b 7, b 8, b 9, mergeTo a b 0 0, mergeTo a b 1 1, mergeTo a b 2 2, mergeTo a b 3 3, mergeTo a b 4 4, mergeTo a b 5 5, mergeTo a b 6 6⟩

/-- The values at the cut before the first merge, row block 1. -/
abbrev start1 {u v : Shape} (y : Nat → FVec F u .bf16) (a b : Nat → FVec F v .bf16) : Σ' (_ : FVec F u .bf16) (_ : FVec F u .bf16) (_ : FVec F u .bf16) (_ : FVec F u .bf16) (_ : FVec F u .bf16) (_ : FVec F u .bf16) (_ : FVec F u .bf16) (_ : FVec F u .bf16) (_ : FVec F u .bf16) (_ : FVec F u .bf16) (_ : FVec F v .bf16) (_ : FVec F v .bf16) (_ : FVec F v .bf16) (_ : FVec F v .bf16) (_ : FVec F v .bf16) (_ : FVec F v .bf16) (_ : FVec F v .bf16) (_ : FVec F v .bf16), FVec F v .bf16 :=
  ⟨y 0, y 1, y 2, y 3, y 4, y 5, y 6, y 7, y 8, y 9, a 0, a 1, a 2, a 3, a 4, a 5, a 6, a 7, a 8⟩

/-- The values at the cut between two merges, row block 2. -/
abbrev gap2 {u v : Shape} (y : Nat → FVec F u .bf16) (a b : Nat → FVec F v .bf16) : Σ' (_ : FVec F u .bf16) (_ : FVec F u .bf16) (_ : FVec F u .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16), FVec F v .bf16 :=
  ⟨y 7, y 8, y 9, a 0, a 1, a 2, a 3, a 4, a 5, a 6, a 7, a 8, a 9⟩

/-- The values at the cut within a merge, row block 2. -/
abbrev seam2 {v : Shape} (a b : Nat → FVec F v .bf16) : Σ' (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16), FVec F v .bf16 :=
  ⟨b 0, b 1, b 2, b 3, b 4, b 5, b 6, b 7, b 8, b 9, mergeTo a b 0 0, mergeTo a b 1 1, mergeTo a b 2 2, mergeTo a b 3 3, mergeTo a b 4 4, mergeTo a b 5 5, mergeTo a b 6 6, mergeTo a b 7 0⟩

/-- The values at the cut before the first merge, row block 2. -/
abbrev start2 {u v : Shape} (y : Nat → FVec F u .bf16) (a b : Nat → FVec F v .bf16) : Σ' (_ : FVec F u .bf16) (_ : FVec F u .bf16) (_ : FVec F u .bf16) (_ : FVec F u .bf16) (_ : FVec F u .bf16) (_ : FVec F u .bf16) (_ : FVec F u .bf16) (_ : FVec F u .bf16) (_ : FVec F u .bf16) (_ : FVec F u .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16), FVec F v .bf16 :=
  ⟨y 0, y 1, y 2, y 3, y 4, y 5, y 6, y 7, y 8, y 9, a 0, a 1, a 2, a 3, a 4, a 5, a 6, a 7, a 8, a 9⟩

/-- The values at the cut between two merges, row block 3. -/
abbrev gap3 {u v : Shape} (y : Nat → FVec F u .bf16) (a b : Nat → FVec F v .bf16) : Σ' (_ : FVec F u .bf16) (_ : FVec F u .bf16) (_ : FVec F u .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16), FVec F v .bf16 :=
  ⟨y 7, y 8, y 9, a 0, a 1, a 2, a 3, a 4, a 5, a 6, a 7, a 8, a 9, b 0⟩

/-- The values at the cut within a merge, row block 3. -/
abbrev seam3 {v : Shape} (a b : Nat → FVec F v .bf16) : Σ' (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16), FVec F v .bf16 :=
  ⟨b 1, b 2, b 3, b 4, b 5, b 6, b 7, b 8, b 9, mergeTo a b 0 0, mergeTo a b 1 1, mergeTo a b 2 2, mergeTo a b 3 3, mergeTo a b 4 4, mergeTo a b 5 5, mergeTo a b 6 6, mergeTo a b 7 0, minimumf (a 0) (b 6)⟩

/-- The values at the cut before the first merge, row block 3. -/
abbrev start3 {u v : Shape} (y : Nat → FVec F u .bf16) (a b : Nat → FVec F v .bf16) : Σ' (_ : FVec F u .bf16) (_ : FVec F u .bf16) (_ : FVec F u .bf16) (_ : FVec F u .bf16) (_ : FVec F u .bf16) (_ : FVec F u .bf16) (_ : FVec F u .bf16) (_ : FVec F u .bf16) (_ : FVec F u .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16) (_ : FVec F v .bf16), FVec F v .bf16 :=
  ⟨y 1, y 2, y 3, y 4, y 5, y 6, y 7, y 8, y 9, a 0, a 1, a 2, a 3, a 4, a 5, a 6, a 7, a 8, a 9, b 0⟩

end Cert.Proof.I
end
-- ==== Proof.TopFirst.lean ====
/-
  The first sixty stretches of the second TensorCore call's body: the first row block, and the second up to
  the first of its merges.
-/
module

public import proofs.«01_k».proof.Proof.TopCuts

@[expose] public section

set_option maxRecDepth 65536
set_option maxHeartbeats 0

noncomputable section

namespace Cert.Proof.I

open Cert.KernelIdeal Cert.KernelIdeal.Gen
open Idealize.ShloMosaic Idealize.SL.Sem

variable {F : FTy → Type} [FloatOps F] [Named F]

/-- The values after the first sixty stretches. -/
abbrev first60 (s : FVec F S256x8192 .bf16) : Σ' (_ : FVec F S256x8192 .bf16) (_ : FVec F S64x1 .f32) (_ : FVec F S64x64 .bf16) (_ : FVec F S64x64 .bf16) (_ : FVec F S64x64 .bf16) (_ : FVec F S64x64 .bf16) (_ : FVec F S64x64 .bf16) (_ : FVec F S64x64 .bf16) (_ : FVec F S64x64 .bf16) (_ : FVec F S64x64 .bf16) (_ : FVec F S64x64 .bf16) (_ : FVec F S64x64 .bf16) (_ : FVec F S64x32 .bf16) (_ : FVec F S64x32 .bf16) (_ : FVec F S64x32 .bf16) (_ : FVec F S64x32 .bf16) (_ : FVec F S64x32 .bf16) (_ : FVec F S64x32 .bf16) (_ : FVec F S64x32 .bf16) (_ : FVec F S64x32 .bf16), FVec F S64x32 .bf16 :=
  ⟨s, total s 0 (by decide), lev1 s 1 (by decide) 0, lev1 s 1 (by decide) 1, lev1 s 1 (by decide) 2, lev1 s 1 (by decide) 3, lev1 s 1 (by decide) 4, lev1 s 1 (by decide) 5, lev1 s 1 (by decide) 6, lev1 s 1 (by decide) 7, lev1 s 1 (by decide) 8, lev1 s 1 (by decide) 9, lo1 s 1 (by decide) 0, lo1 s 1 (by decide) 1, lo1 s 1 (by decide) 2, lo1 s 1 (by decide) 3, lo1 s 1 (by decide) 4, lo1 s 1 (by decide) 5, lo1 s 1 (by decide) 6, lo1 s 1 (by decide) 7, lo1 s 1 (by decide) 8⟩

theorem first60_eq (i : grid1.Coords) (arg1 : Memref sig .tc .vmem S256x64 .f32) (harg1 : arg1.IsWhole)
    (arg2 : Memref sig .tc .vmem S8192x64 .f32) (harg2 : arg2.IsWhole) (arg3 : Memref sig .tc .vmem S256x128 .f32) (harg3 : arg3.IsWhole) :
    k1_part145 (F := F) i arg1 harg1 arg2 harg2 arg3 harg3 = (do
      let v0 : Vec F S256x64 .f32 ← Prog.lift (.load arg1 (Rect.unit (s := S256x64) ![0, 0] S256x64.size inb_S256x64_S256x64_0_0).toLoadRect (View.loadsAt_vmem h_S256x64))
      let v2 : Vec F S8192x64 .f32 ← Prog.lift (.load arg2 (Rect.unit (s := S8192x64) ![0, 0] S8192x64.size inb_S8192x64_S8192x64_0_0).toLoadRect (View.loadsAt_vmem h_S8192x64))
      pure (first60 (k1_pay2 v0 v2))) := by
  unfold k1_part145
  refine step_loads (a := fun v w => ⟨k1_pay2 v w, cut0 (k1_pay2 v w) 1 (by decide)⟩) ?_ fun v w => ?_
  · rfl
  generalize k1_pay2 v w = s
  refine step (cut0 s 4 (by decide)) rfl ?_
  refine step (cut0 s 7 (by decide)) rfl ?_
  refine step (cut0 s 10 (by decide)) rfl ?_
  refine step (cut0 s 13 (by decide)) rfl ?_
  refine step (cut0 s 16 (by decide)) rfl ?_
  refine step (cut0 s 19 (by decide)) rfl ?_
  refine step (cut0 s 22 (by decide)) rfl ?_
  refine step (cut0 s 25 (by decide)) rfl ?_
  refine step (cut0 s 28 (by decide)) rfl ?_
  refine step (cut0 s 31 (by decide)) rfl ?_
  refine step (cut0 s 34 (by decide)) rfl ?_
  refine step (cut0 s 37 (by decide)) rfl ?_
  refine step (cut0 s 40 (by decide)) rfl ?_
  refine step (cut0 s 43 (by decide)) rfl ?_
  refine step (cut0 s 46 (by decide)) rfl ?_
  refine step (cut0 s 49 (by decide)) rfl ?_
  refine step (cut0 s 52 (by decide)) rfl ?_
  refine step (cut0 s 55 (by decide)) rfl ?_
  refine step (cut0 s 58 (by decide)) rfl ?_
  refine step (cut0 s 61 (by decide)) rfl ?_
  refine step (start0 (lev0 s 0 (by decide)) (lo0 s 0 (by decide)) (hi0 s 0 (by decide))) rfl ?_
  refine step (seam0 (lo0 s 0 (by decide)) (hi0 s 0 (by decide))) rfl ?_
  refine step (gap0 (lev1 s 0 (by decide)) (lo1 s 0 (by decide)) (hi1 s 0 (by decide))) rfl ?_
  refine step (seam0 (lo1 s 0 (by decide)) (hi1 s 0 (by decide))) rfl ?_
  refine step (gap0 (lev2 s 0 (by decide)) (lo2 s 0 (by decide)) (hi2 s 0 (by decide))) rfl ?_
  refine step (seam0 (lo2 s 0 (by decide)) (hi2 s 0 (by decide))) rfl ?_
  refine step (gap0 (lev3 s 0 (by decide)) (lo3 s 0 (by decide)) (hi3 s 0 (by decide))) rfl ?_
  refine step (seam0 (lo3 s 0 (by decide)) (hi3 s 0 (by decide))) rfl ?_
  refine step (gap0 (lev4 s 0 (by decide)) (lo4 s 0 (by decide)) (hi4 s 0 (by decide))) rfl ?_
  refine step (seam0 (lo4 s 0 (by decide)) (hi4 s 0 (by decide))) rfl ?_
  refine step (gap0 (lev5 s 0 (by decide)) (lo5 s 0 (by decide)) (hi5 s 0 (by decide))) rfl ?_
  refine step (seam0 (lo5 s 0 (by decide)) (hi5 s 0 (by decide))) rfl ?_
  refine step (gap0 (lev6 s 0 (by decide)) (lo6 s 0 (by decide)) (hi6 s 0 (by decide))) rfl ?_
  refine step (seam0 (lo6 s 0 (by decide)) (hi6 s 0 (by decide))) rfl ?_
  refine step ⟨lev7 s 0 (by decide) 6, lev7 s 0 (by decide) 7, lev7 s 0 (by decide) 8, lev7 s 0 (by decide) 9, totalTo (lev7 s 0 (by decide)) 3, extf .f32 (lev7 s 0 (by decide) 4) bitsLt_bf16_f32⟩ rfl ?_
  refine step ⟨total s 0 (by decide), cut1 s 1 (by decide)⟩ rfl ?_
  refine step (cut1 s 4 (by decide)) rfl ?_
  refine step (cut1 s 7 (by decide)) rfl ?_
  refine step (cut1 s 10 (by decide)) rfl ?_
  refine step (cut1 s 13 (by decide)) rfl ?_
  refine step (cut1 s 16 (by decide)) rfl ?_
  refine step (cut1 s 19 (by decide)) rfl ?_
  refine step (cut1 s 22 (by decide)) rfl ?_
  refine step (cut1 s 25 (by decide)) rfl ?_
  refine step (cut1 s 28 (by decide)) rfl ?_
  refine step (cut1 s 31 (by decide)) rfl ?_
  refine step (cut1 s 34 (by decide)) rfl ?_
  refine step (cut1 s 37 (by decide)) rfl ?_
  refine step (cut1 s 40 (by decide)) rfl ?_
  refine step (cut1 s 43 (by decide)) rfl ?_
  refine step (cut1 s 46 (by decide)) rfl ?_
  refine step (cut1 s 49 (by decide)) rfl ?_
  refine step (cut1 s 52 (by decide)) rfl ?_
  refine step (cut1 s 55 (by decide)) rfl ?_
  refine step (cut1 s 58 (by decide)) rfl ?_
  refine step (cut1 s 61 (by decide)) rfl ?_
  refine step (start1 (lev0 s 1 (by decide)) (lo0 s 1 (by decide)) (hi0 s 1 (by decide))) rfl ?_
  refine step (seam1 (lo0 s 1 (by decide)) (hi0 s 1 (by decide))) rfl ?_
  refine step (gap1 (lev1 s 1 (by decide)) (lo1 s 1 (by decide)) (hi1 s 1 (by decide))) rfl ?_
  rfl

end Cert.Proof.I
end
-- ==== Proof.TopNext.lean ====
/-
  The next sixty stretches of the second TensorCore call's body: the second row block's other merges, the
  third row block, and the first 34 column blocks of the fourth.
-/
module

public import proofs.«01_k».proof.Proof.TopCuts

@[expose] public section

set_option maxRecDepth 65536
set_option maxHeartbeats 0

noncomputable section

namespace Cert.Proof.I

open Cert.KernelIdeal Cert.KernelIdeal.Gen
open Idealize.ShloMosaic Idealize.SL.Sem

variable {F : FTy → Type} [FloatOps F] [Named F]

/-- The values after the next sixty stretches. -/
abbrev next60 (s : FVec F S256x8192 .bf16) : Σ' (_ : FVec F S64x1 .f32) (_ : FVec F S64x1 .f32) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16) (_ : FVec F S64x128 .bf16), FVec F S64x128 .bf16 :=
  ⟨total s 1 (by decide), total s 2 (by decide), cut3 s 34 (by decide)⟩

theorem next60_eq (i : grid1.Coords) (arg1 : Memref sig .tc .vmem S256x64 .f32) (harg1 : arg1.IsWhole)
    (arg2 : Memref sig .tc .vmem S8192x64 .f32) (harg2 : arg2.IsWhole) (arg3 : Memref sig .tc .vmem S256x128 .f32) (harg3 : arg3.IsWhole) (s : FVec F S256x8192 .bf16) :
    k1_part146 (F := F) i arg1 harg1 arg2 harg2 arg3 harg3 s (lev1 s 1 (by decide) 0) (lev1 s 1 (by decide) 1) (lev1 s 1 (by decide) 2) (lev1 s 1 (by decide) 3) (lev1 s 1 (by decide) 4) (lev1 s 1 (by decide) 5) (lev1 s 1 (by decide) 6) (lev1 s 1 (by decide) 7) (lev1 s 1 (by decide) 8) (lev1 s 1 (by decide) 9) (lo1 s 1 (by decide) 0) (lo1 s 1 (by decide) 1) (lo1 s 1 (by decide) 2) (lo1 s 1 (by decide) 3) (lo1 s 1 (by decide) 4) (lo1 s 1 (by decide) 5) (lo1 s 1 (by decide) 6) (lo1 s 1 (by decide) 7) (lo1 s 1 (by decide) 8) = pure (next60 s) := by
  unfold k1_part146
  refine step (seam1 (lo1 s 1 (by decide)) (hi1 s 1 (by decide))) rfl ?_
  refine step (gap1 (lev2 s 1 (by decide)) (lo2 s 1 (by decide)) (hi2 s 1 (by decide))) rfl ?_
  refine step (seam1 (lo2 s 1 (by decide)) (hi2 s 1 (by decide))) rfl ?_
  refine step (gap1 (lev3 s 1 (by decide)) (lo3 s 1 (by decide)) (hi3 s 1 (by decide))) rfl ?_
  refine step (seam1 (lo3 s 1 (by decide)) (hi3 s 1 (by decide))) rfl ?_
  refine step (gap1 (lev4 s 1 (by decide)) (lo4 s 1 (by decide)) (hi4 s 1 (by decide))) rfl ?_
  refine step (seam1 (lo4 s 1 (by decide)) (hi4 s 1 (by decide))) rfl ?_
  refine step (gap1 (lev5 s 1 (by decide)) (lo5 s 1 (by decide)) (hi5 s 1 (by decide))) rfl ?_
  refine step (seam1 (lo5 s 1 (by decide)) (hi5 s 1 (by decide))) rfl ?_
  refine step (gap1 (lev6 s 1 (by decide)) (lo6 s 1 (by decide)) (hi6 s 1 (by decide))) rfl ?_
  refine step (seam1 (lo6 s 1 (by decide)) (hi6 s 1 (by decide))) rfl ?_
  refine step ⟨lev7 s 1 (by decide) 7, lev7 s 1 (by decide) 8, lev7 s 1 (by decide) 9, totalTo (lev7 s 1 (by decide)) 4⟩ rfl ?_
  refine step ⟨total s 1 (by decide), cut2 s 1 (by decide)⟩ rfl ?_
  refine step (cut2 s 4 (by decide)) rfl ?_
  refine step (cut2 s 7 (by decide)) rfl ?_
  refine step (cut2 s 10 (by decide)) rfl ?_
  refine step (cut2 s 13 (by decide)) rfl ?_
  refine step (cut2 s 16 (by decide)) rfl ?_
  refine step (cut2 s 19 (by decide)) rfl ?_
  refine step (cut2 s 22 (by decide)) rfl ?_
  refine step (cut2 s 25 (by decide)) rfl ?_
  refine step (cut2 s 28 (by decide)) rfl ?_
  refine step (cut2 s 31 (by decide)) rfl ?_
  refine step (cut2 s 34 (by decide)) rfl ?_
  refine step (cut2 s 37 (by decide)) rfl ?_
  refine step (cut2 s 40 (by decide)) rfl ?_
  refine step (cut2 s 43 (by decide)) rfl ?_
  refine step (cut2 s 46 (by decide)) rfl ?_
  refine step (cut2 s 49 (by decide)) rfl ?_
  refine step (cut2 s 52 (by decide)) rfl ?_
  refine step (cut2 s 55 (by decide)) rfl ?_
  refine step (cut2 s 58 (by decide)) rfl ?_
  refine step (cut2 s 61 (by decide)) rfl ?_
  refine step (start2 (lev0 s 2 (by decide)) (lo0 s 2 (by decide)) (hi0 s 2 (by decide))) rfl ?_
  refine step (seam2 (lo0 s 2 (by decide)) (hi0 s 2 (by decide))) rfl ?_
  refine step (gap2 (lev1 s 2 (by decide)) (lo1 s 2 (by decide)) (hi1 s 2 (by decide))) rfl ?_
  refine step (seam2 (lo1 s 2 (by decide)) (hi1 s 2 (by decide))) rfl ?_
  refine step (gap2 (lev2 s 2 (by decide)) (lo2 s 2 (by decide)) (hi2 s 2 (by decide))) rfl ?_
  refine step (seam2 (lo2 s 2 (by decide)) (hi2 s 2 (by decide))) rfl ?_
  refine step (gap2 (lev3 s 2 (by decide)) (lo3 s 2 (by decide)) (hi3 s 2 (by decide))) rfl ?_
  refine step (seam2 (lo3 s 2 (by decide)) (hi3 s 2 (by decide))) rfl ?_
  refine step (gap2 (lev4 s 2 (by decide)) (lo4 s 2 (by decide)) (hi4 s 2 (by decide))) rfl ?_
  refine step (seam2 (lo4 s 2 (by decide)) (hi4 s 2 (by decide))) rfl ?_
  refine step (gap2 (lev5 s 2 (by decide)) (lo5 s 2 (by decide)) (hi5 s 2 (by decide))) rfl ?_
  refine step (seam2 (lo5 s 2 (by decide)) (hi5 s 2 (by decide))) rfl ?_
  refine step (gap2 (lev6 s 2 (by decide)) (lo6 s 2 (by decide)) (hi6 s 2 (by decide))) rfl ?_
  refine step (seam2 (lo6 s 2 (by decide)) (hi6 s 2 (by decide))) rfl ?_
  refine step ⟨lev7 s 2 (by decide) 7, lev7 s 2 (by decide) 8, lev7 s 2 (by decide) 9, totalTo (lev7 s 2 (by decide)) 4, extf .f32 (lev7 s 2 (by decide) 5) bitsLt_bf16_f32⟩ rfl ?_
  refine step ⟨total s 2 (by decide), cut3 s 1 (by decide)⟩ rfl ?_
  refine step (cut3 s 4 (by decide)) rfl ?_
  refine step (cut3 s 7 (by decide)) rfl ?_
  refine step (cut3 s 10 (by decide)) rfl ?_
  refine step (cut3 s 13 (by decide)) rfl ?_
  refine step (cut3 s 16 (by decide)) rfl ?_
  refine step (cut3 s 19 (by decide)) rfl ?_
  refine step (cut3 s 22 (by decide)) rfl ?_
  refine step (cut3 s 25 (by decide)) rfl ?_
  refine step (cut3 s 28 (by decide)) rfl ?_
  refine step (cut3 s 31 (by decide)) rfl ?_
  refine step (cut3 s 34 (by decide)) rfl ?_
  rfl

end Cert.Proof.I
end
-- ==== Proof.TopBody.lean ====
/-
  The second TensorCore call's body is the few array operations that TopSpec names: its last stretches, and
  what it writes.
-/
module

public import proofs.«01_k».proof.Proof.TopFirst
public import proofs.«01_k».proof.Proof.TopNext

@[expose] public section

set_option maxRecDepth 65536
set_option maxHeartbeats 0

noncomputable section

namespace Cert.Proof.I

open Cert.KernelIdeal Cert.KernelIdeal.Gen
open Idealize.ShloMosaic Idealize.SL.Sem

variable {F : FTy → Type} [FloatOps F] [Named F]

theorem body_eq (i : grid1.Coords) (arg1 : Memref sig .tc .vmem S256x64 .f32) (harg1 : arg1.IsWhole)
    (arg2 : Memref sig .tc .vmem S8192x64 .f32) (harg2 : arg2.IsWhole) (arg3 : Memref sig .tc .vmem S256x128 .f32) (harg3 : arg3.IsWhole) :
    cc1__topk_table_body (F := F) i arg1 harg1 arg2 harg2 arg3 harg3 = topBody arg1 arg2 arg3 := by
  unfold cc1__topk_table_body topBody
  rw [first60_eq]
  simp only [bind_assoc, pure_bind]
  refine congrArg (Prog.bind _) (funext fun v => congrArg (Prog.bind _) (funext fun w => ?_))
  generalize k1_pay2 v w = s
  refine step (next60 s) (next60_eq i arg1 harg1 arg2 harg2 arg3 harg3 s) ?_
  refine step (cut3 s 37 (by decide)) rfl ?_
  refine step (cut3 s 40 (by decide)) rfl ?_
  refine step (cut3 s 43 (by decide)) rfl ?_
  refine step (cut3 s 46 (by decide)) rfl ?_
  refine step (cut3 s 49 (by decide)) rfl ?_
  refine step (cut3 s 52 (by decide)) rfl ?_
  refine step (cut3 s 55 (by decide)) rfl ?_
  refine step (cut3 s 58 (by decide)) rfl ?_
  refine step (cut3 s 61 (by decide)) rfl ?_
  refine step (start3 (lev0 s 3 (by decide)) (lo0 s 3 (by decide)) (hi0 s 3 (by decide))) rfl ?_
  refine step (seam3 (lo0 s 3 (by decide)) (hi0 s 3 (by decide))) rfl ?_
  refine step (gap3 (lev1 s 3 (by decide)) (lo1 s 3 (by decide)) (hi1 s 3 (by decide))) rfl ?_
  refine step (seam3 (lo1 s 3 (by decide)) (hi1 s 3 (by decide))) rfl ?_
  refine step (gap3 (lev2 s 3 (by decide)) (lo2 s 3 (by decide)) (hi2 s 3 (by decide))) rfl ?_
  refine step (seam3 (lo2 s 3 (by decide)) (hi2 s 3 (by decide))) rfl ?_
  refine step (gap3 (lev3 s 3 (by decide)) (lo3 s 3 (by decide)) (hi3 s 3 (by decide))) rfl ?_
  refine step (seam3 (lo3 s 3 (by decide)) (hi3 s 3 (by decide))) rfl ?_
  refine step (gap3 (lev4 s 3 (by decide)) (lo4 s 3 (by decide)) (hi4 s 3 (by decide))) rfl ?_
  refine step (seam3 (lo4 s 3 (by decide)) (hi4 s 3 (by decide))) rfl ?_
  refine step (gap3 (lev5 s 3 (by decide)) (lo5 s 3 (by decide)) (hi5 s 3 (by decide))) rfl ?_
  refine step (seam3 (lo5 s 3 (by decide)) (hi5 s 3 (by decide))) rfl ?_
  refine step (gap3 (lev6 s 3 (by decide)) (lo6 s 3 (by decide)) (hi6 s 3 (by decide))) rfl ?_
  refine step (seam3 (lo6 s 3 (by decide)) (hi6 s 3 (by decide))) rfl ?_
  refine step ⟨lev7 s 3 (by decide) 7, lev7 s 3 (by decide) 8, lev7 s 3 (by decide) 9, totalTo (lev7 s 3 (by decide)) 5⟩ rfl ?_
  rfl

end Cert.Proof.I
end
-- ==== Proof.TopCall.lean ====
/-
  The second TensorCore pipeline's own body at a grid point runs as `topBody` does.
-/
module

public import proofs.«01_k».proof.Proof.TopRun
public import proofs.«01_k».proof.Proof.TopBody
public import Idealize.ShloMosaic.Lib.Pipeline.ValueKit
public import Idealize.ShloMosaic.Lib.VecWindow

@[expose] public section

set_option maxRecDepth 16384

noncomputable section

namespace Cert.Proof.I

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)

variable {F : FTy → Type} [FloatOps F] [Named F]

local notation "𝕄" => MT nD τ sig (HIx 1) (Elt F) ℕ UU ℕ

theorem topCall_run (d : Dev nD) (i : grid1.Coords)
    (M0 : Memref sig .tc .vmem S256x64 .f32) (h0 : M0.IsWhole) (M1 : Memref sig .tc .vmem S8192x64 .f32) (h1 : M1.IsWhole)
    (M2 : Memref sig .tc .vmem S256x128 .f32) (h2 : M2.IsWhole)
    (X0 : S256x64.Idx → Elt F .f32) (X1 : S8192x64.Idx → Elt F .f32) (Y2 : S256x128.Idx → Elt F .f32) (Q : PUnit → sProp 𝕄) :
    (iprop(owns (d : Thread nD τ) M0 fullShare X0 ∗ owns (d : Thread nD τ) M1 fullShare X1 ∗ owns (d : Thread nD τ) M2 fullShare Y2
        ∗ (iprop(owns (d : Thread nD τ) M0 fullShare X0 ∗ owns (d : Thread nD τ) M1 fullShare X1
          ∗ owns (d : Thread nD τ) M2 fullShare (topBlk X0 X1)) -∗ Q ⟨⟩)) : sProp 𝕄)
      ⊢ wp (M := 𝕄) frame (wpE (defs₀ (F := F)) 𝒱₀ (d : Thread nD τ) none) Set.univ (cc1__topk_table_body i M0 h0 M1 h1 M2 h2) Q := by
  rw [body_eq]; exact topBody_run d M0 h0 M1 h1 M2 h2 X0 X1 Y2 Q

end Cert.Proof.I

end
-- ==== Proof.TcRegion.lean ====
/-
  The three TensorCore pipelines as regions of the program, each entered from arbitrary contents of the arrays: what each
  window's buffer holds at each point, the bodies' obligations there, and the region over the unscoped buffers. What a
  region leaves in its results are the write-backs of all its points.
-/
module

public import proofs.«01_k».proof.Proof.TailRun
public import proofs.«01_k».proof.Proof.NormRun
public import proofs.«01_k».proof.Proof.TopCall
public import Idealize.ShloMosaic.Lib.Pipeline.RegionsLoop
public import Idealize.ShloMosaic.Lib.Pipeline.RegionArrays
public import Idealize.ShloMosaic.Lib.Pipeline.FrameBody

@[expose] public section

set_option maxRecDepth 16384

noncomputable section

namespace Cert.Proof.I

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore.Cfg (HIx)
open Idealize.ShloMosaic.Pipeline (Dat Cfg Window BodyObligation cellOf)

variable {F : FTy → Type} [FloatOps F] [Named F]

local notation "𝕄" => MT nD τ sig (HIx 1) (Elt F) ℕ UU ℕ

abbrev adm : (p : Fin 3) → (pcfgs (F := F) p).Adm := fun p => (cfgs p).toPCfg_adm

variable (V : (c : Dev nD) → (b : Ref sig .tc) → Buf (Elt F) ((c : Thread nD τ).loc b))
-- the waits the core may have recorded before the region
variable (B : Dev nD → Set (SemLoc sig × HIx 1))

/-! ## What the windows hold -/

/-- The blocks that point `t` of the first pipeline works on: rows, and the six vectors of their half. -/
abbrev nrm0 (c : Dev nD) (t : Fin cfg0.N) : S512x64.Idx → Elt F .f32 := ((cfg0.win 0).blk t).view.read (Elt F) (V c main_v0)
abbrev nrm1 (c : Dev nD) (t : Fin cfg0.N) : S1x6x64.Idx → Elt F .f32 := ((cfg0.win 1).blk t).view.read (Elt F) (V c main_v3)

/-- The blocks that point `t` of the second works on: normalised rows, and all those of the other half. -/
abbrev top0 (c : Dev nD) (t : Fin cfg1.N) : S256x64.Idx → Elt F .f32 := ((cfg1.win 0).blk t).view.read (Elt F) (V c main_v4)
abbrev top1 (c : Dev nD) (t : Fin cfg1.N) : S8192x64.Idx → Elt F .f32 := ((cfg1.win 1).blk t).view.read (Elt F) (V c main_v4)

/-- The blocks that point `t` of the last works on: gathered rows of either side. -/
abbrev blk0 (c : Dev nD) (t : Fin cfg3.N) : S2048x128.Idx → Elt F .f32 := ((cfg3.win 0).blk t).view.read (Elt F) (V c main_v11)
abbrev blk1 (c : Dev nD) (t : Fin cfg3.N) : S2048x128.Idx → Elt F .f32 := ((cfg3.win 1).blk t).view.read (Elt F) (V c main_v12)

/-- The proof data of one entry from contents `V`: the inputs' buffers at their blocks, the results' at the body's payloads. -/
def dat0 (c : Dev nD) : Dat τ (Elt F) (HIx 1) ℕ UU ℕ cfg0 c where
  A w := V c (Pipeline.arrRef spec0 w)
  after w t := match w with
    | ⟨0, _⟩ => nrm0 V c t
    | ⟨1, _⟩ => nrm1 V c t
    | ⟨2, _⟩ => normBlk (nrm0 V c t) (nrm1 V c t)
  Φ _ := Pipeline.scopedRest cfg0.spec c
  q w := Pipeline.shareOf spec0 w
  owed _ := (K (F := F)).Otc c 0
  recorded _ := B c

def dat1 (c : Dev nD) : Dat τ (Elt F) (HIx 1) ℕ UU ℕ cfg1 c where
  A w := V c (Pipeline.arrRef spec1 w)
  after w t := match w with
    | ⟨0, _⟩ => top0 V c t
    | ⟨1, _⟩ => top1 V c t
    | ⟨2, _⟩ => topBlk (top0 V c t) (top1 V c t)
  Φ _ := Pipeline.scopedRest cfg1.spec c
  q w := Pipeline.shareOf spec1 w
  owed _ := (K (F := F)).Otc c 0
  recorded _ := B c

def dat3 (c : Dev nD) : Dat τ (Elt F) (HIx 1) ℕ UU ℕ cfg3 c where
  A w := V c (Pipeline.arrRef spec3 w)
  after w t := match w with
    | ⟨0, _⟩ => blk0 V c t
    | ⟨1, _⟩ => blk1 V c t
    | ⟨2, _⟩ => k3_pay5 (blk0 V c t) (blk1 V c t)
    | ⟨3, _⟩ => k3_pay6 (blk0 V c t) (blk1 V c t)
  Φ _ := Pipeline.scopedRest cfg3.spec c
  q w := Pipeline.shareOf spec3 w
  owed _ := 0
  recorded _ := B c

def pdats : (p : Fin 3) → (c : Dev nD) → Dat τ (Elt F) (HIx 1) ℕ UU ℕ (Pipeline.pin (pcfgs (F := F)) adm p) c
  | ⟨0, _⟩ => fun c => dat0 V B c
  | ⟨1, _⟩ => fun c => dat1 V B c
  | ⟨2, _⟩ => fun c => dat3 V B c

/-- What the core owes at the region. -/
def owed : Fin 3 → Dev nD → CellTallies nD τ sig (HIx 1)
  | ⟨0, _⟩ => fun c => (K (F := F)).Otc c 0
  | ⟨1, _⟩ => fun c => (K (F := F)).Otc c 0
  | ⟨2, _⟩ => fun _ => 0

/-! ## The bodies' obligations -/

theorem before0_0 (c : Dev nD) (t : Fin cfg0.N) (e) : (dat0 V B c).before 0 t e = nrm0 V c t := by
  unfold Dat.before; rw [if_pos (fetch0_0 t)]; rfl
theorem before0_1 (c : Dev nD) (t : Fin cfg0.N) (e) : (dat0 V B c).before 1 t e = nrm1 V c t :=
  (dat0 V B c).before_in_eq_fetched 1 rfl (fun _ => rfl) (fun _ _ _ => rfl) (fun _ => rfl) t e
theorem before1_0 (c : Dev nD) (t : Fin cfg1.N) (e) : (dat1 V B c).before 0 t e = top0 V c t := by
  unfold Dat.before; rw [if_pos (fetch1_0 t)]; rfl
theorem before1_1 (c : Dev nD) (t : Fin cfg1.N) (e) : (dat1 V B c).before 1 t e = top1 V c t :=
  (dat1 V B c).before_in_eq_fetched 1 rfl (fun _ => rfl) (fun _ _ _ => rfl) (fun _ => rfl) t e
theorem before3_0 (c : Dev nD) (t : Fin cfg3.N) (e) : (dat3 V B c).before 0 t e = blk0 V c t := by
  unfold Dat.before; rw [if_pos (fetch3_0 t)]; rfl
theorem before3_1 (c : Dev nD) (t : Fin cfg3.N) (e) : (dat3 V B c).before 1 t e = blk1 V c t := by
  unfold Dat.before; rw [if_pos (fetch3_1 t)]; rfl

theorem body0 (c : Dev nD) : BodyObligation (dat0 V B c) (defs₀ (F := F)) 𝒱₀ none Set.univ := fun t => by
  rw [bigSep_W0, bigSep_W0]
  rw [show (dat0 V B c).Φ t.succ = (dat0 V B c).Φ t.castSucc from rfl,
    show (dat0 V B c).owesAt none t.succ = (dat0 V B c).owesAt none t.castSucc from rfl]
  iintro ⟨HΦ, Howes, ⟨%d0, H0⟩, ⟨%d1, H1⟩, ⟨%d2, H2⟩⟩
  rw [before0_0, before0_1]
  iapply (norm_run c (grid0.coords t) (st0_0 t) (stage_whole0 0 _) (st0_1 t) (stage_whole0 1 _) (st0_2 t) (stage_whole0 2 _)
    (nrm0 V c t) (nrm1 V c t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem body1 (c : Dev nD) : BodyObligation (dat1 V B c) (defs₀ (F := F)) 𝒱₀ none Set.univ := fun t => by
  rw [bigSep_W1, bigSep_W1]
  rw [show (dat1 V B c).Φ t.succ = (dat1 V B c).Φ t.castSucc from rfl,
    show (dat1 V B c).owesAt none t.succ = (dat1 V B c).owesAt none t.castSucc from rfl]
  iintro ⟨HΦ, Howes, ⟨%d0, H0⟩, ⟨%d1, H1⟩, ⟨%d2, H2⟩⟩
  rw [before1_0, before1_1]
  iapply (topCall_run c (grid1.coords t) (st1_0 t) (stage_whole1 0 _) (st1_1 t) (stage_whole1 1 _) (st1_2 t) (stage_whole1 2 _)
    (top0 V c t) (top1 V c t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem body3 (c : Dev nD) : BodyObligation (dat3 V B c) (defs₀ (F := F)) 𝒱₀ none Set.univ := fun t => by
  rw [bigSep_W3, bigSep_W3]
  rw [show (dat3 V B c).Φ t.succ = (dat3 V B c).Φ t.castSucc from rfl,
    show (dat3 V B c).owesAt none t.succ = (dat3 V B c).owesAt none t.castSucc from rfl]
  iintro ⟨HΦ, Howes, ⟨%d0, H0⟩, ⟨%d1, H1⟩, ⟨%d2, H2⟩, ⟨%d3, H3⟩⟩
  rw [before3_0, before3_1]
  iapply (tail_run c (grid3.coords t) (st3_0 t) (stage_whole3 0 _) (st3_1 t) (stage_whole3 1 _) (st3_2 t) (stage_whole3 2 _) (st3_3 t) (stage_whole3 3 _)
    (blk0 V c t) (blk1 V c t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## What the regions leave in their results -/

def normOut (c : Dev nD) : Buf (Elt F) ((c : Thread nD τ).loc main_v4) := (dat0 V B c).arrAt 2 cfg0.N
def topOut (c : Dev nD) : Buf (Elt F) ((c : Thread nD τ).loc main_v5) := (dat1 V B c).arrAt 2 cfg1.N
def tailOut2 (c : Dev nD) : Buf (Elt F) ((c : Thread nD τ).loc main_v13_0) := (dat3 V B c).arrAt 2 cfg3.N
def tailOut3 (c : Dev nD) : Buf (Elt F) ((c : Thread nD τ).loc main_v13_1) := (dat3 V B c).arrAt 3 cfg3.N

/-! ## The regions -/

variable (Vp : (c : Dev nD) → (b : Ref sig .tc) → Buf (Elt F) ((c : Thread nD τ).loc b))

set_option backward.isDefEq.respectTransparency.types false in
/-- A pipeline as a region over the unscoped buffers at `V`, the core's waits within `B`; it leaves the buffers at any `Vp`
    that has the pipeline's arrays as the write-backs leave them and agrees with `V` off them. -/
def reg (p : Fin 3) (hw : Pipeline.WinFacts₀ (cfgs p).spec) (hsh : Pipeline.SharedIn (cfgs p).spec)
    (hpos : ∀ w : Fin (cfgs p).W, 0 < ((cfgs p).spec w).block.numel) (harr : ∀ w : Fin (cfgs p).W, ((cfgs p).spec w).arr.IsWhole)
    (hstage : ∀ (w : Fin (cfgs p).W) (s : Fin ((cfgs p).spec w).nbuf), (((cfgs p).spec w).stage s).IsWhole)
    (hbody : ∀ c, BodyObligation (pdats V B p c) (defs₀ (F := F)) 𝒱₀ none Set.univ)
    (howed : ∀ c t, (pdats V B p c).owed t = owed (F := F) p c) (hrec : ∀ c t, (pdats V B p c).recorded t = B c)
    (hpre : (pcfgs (F := F) p).pre.K = 0)
    (hΦ : ∀ c t, (pdats V B p c).Φ t = Pipeline.scopedRest (cfgs p).spec c)
    (hq : ∀ c w, (pdats V B p c).q w = Pipeline.shareOf (Pipeline.pin (pcfgs (F := F)) adm p).spec w)
    (hA : ∀ c w, (pdats V B p c).A w = V c (Pipeline.arrRef (Pipeline.pin (pcfgs (F := F)) adm p).spec w))
    (hF : ∀ c w, (pdats V B p c).arrAt w (cfgs p).N = Vp c (Pipeline.arrRef (Pipeline.pin (pcfgs (F := F)) adm p).spec w))
    (hne : ∀ c (b : Ref sig .tc), b ∉ Finset.univ.image (Pipeline.arrRef (Pipeline.pin (pcfgs (F := F)) adm p).spec) → Vp c b = V c b) :
    Pipeline.RegionSeg (pcfgs (F := F)) adm (pdats V B) none defs₀ 𝒱₀ (K (F := F)).L (K (F := F)).lev p where
  win := hw
  block_pos := hpos
  stage_whole := hstage
  K := PEmpty
  osem k := k.elim
  ho := Pipeline.OwnSemFacts.none _
  hbody c := (hbody c).loose
  hwaits c := Pipeline.cellsWaits_of_cut (Pipeline.pin (pcfgs (F := F)) adm) (pdats V B) none p c 0 (owed (F := F) p c) (howed c)
    (fun _ _ => Finset.mem_univ _) (fun _ _ => le_rfl) fun g i h => ⟨Finset.mem_univ _, by
      have h' : 0 < (K (F := F)).Otc c 0 g i := by
        revert h
        match p with
        | 0 => exact id
        | 1 => exact id
        | 2 => exact fun h => absurd h (lt_irrefl 0)
      have := SparseCore.Cfg.lev_of_Otc_pos h'
      omega⟩
  pre c := iprop(unscopedBufs c (V c) ∗ ∃ W, ⌜∀ p ∈ W, p ∈ B c⌝ ∗ owes (c : Thread nD τ) (owed (F := F) p c) W)
  post c := iprop(unscopedBufs c (Vp c) ∗ ∃ W, ⌜∀ p ∈ W, p ∈ B c ∨ p.2 = none⌝ ∗ owes (c : Thread nD τ) (owed (F := F) p c) W)
  X _ := BI.emp
  Y _ := BI.emp
  Z c := Pipeline.unscopedRest (Ix := HIx 1) (Name := ℕ) (U := UU) (Lvl := ℕ) (cfgs p).spec c (V c)
  hentry c := by
    rw [Pipeline.ownSems0_none, Pipeline.prefHeld_of_none _ hpre]
    have hsplit := Pipeline.arrays_of_unscopedBufs_shared (pcfgs (F := F)) adm (pdats V B) hw hsh harr c (fun w _ => hq c w) (V c) (hA c)
    iintro ⟨⟨Hub, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound
      rw [howed c 0, hrec c]
      icases HO with ⟨%W, %hW, HO⟩; iexists W; isplitr; · ipureintro; exact fun p hp => Or.inl (hW p hp)
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays_shared (pcfgs (F := F)) adm hw hsh harr c (pdats V B) (fun w _ => hq c w) (V c) (Vp c)
      ((pdats V B p c).arrAt · (cfgs p).N) (hF c) (hne c)
    iintro ⟨Ha, HO, -, Hrest⟩
    imodintro
    isplitl [Ha Hrest]
    · iapply hjoin; isplitl [Ha] <;> iassumption
    unfold Pipeline.Dat.owesAt Pipeline.owesWithin Pipeline.Dat.bound
    rw [howed c, hrec c]
    icases HO with ⟨%W, %hW, HO⟩; iexists W; isplitr
    · ipureintro
      intro p hp
      rcases hW hp with h | ⟨w, s, h⟩
      · exact Or.inl h
      · exact Or.inr (by rw [h])
    iexact HO

set_option backward.isDefEq.respectTransparency.types false in
/-- The first pipeline. -/
def reg0 (h : ∀ c, Vp c main_v4 = normOut V B c) (hne : ∀ c (b : Ref sig .tc), b ≠ main_v4 → Vp c b = V c b) :
    Pipeline.RegionSeg (pcfgs (F := F)) adm (pdats V B) none defs₀ 𝒱₀ (K (F := F)).L (K (F := F)).lev 0 :=
  reg V B Vp 0 winFacts0.to₀ (by decide) block_pos0 arr_whole0 stage_whole0 (body0 V B) (fun _ _ => rfl) (fun _ _ => rfl) rfl (fun _ _ => rfl)
    (fun _ _ => rfl) (fun _ _ => rfl)
    (fun c w => match w with
      | ⟨0, _⟩ => ((dat0 V B c).arrAt_in 0 rfl _).trans (hne c main_v0 (by decide)).symm
      | ⟨1, _⟩ => ((dat0 V B c).arrAt_in 1 rfl _).trans (hne c main_v3 (by decide)).symm
      | ⟨2, _⟩ => (h c).symm)
    (fun c b hb => hne c b fun e => hb (e ▸ Finset.mem_image.mpr ⟨(2 : Fin 3), Finset.mem_univ _, rfl⟩))

set_option backward.isDefEq.respectTransparency.types false in
/-- The second. -/
def reg1 (h : ∀ c, Vp c main_v5 = topOut V B c) (hne : ∀ c (b : Ref sig .tc), b ≠ main_v5 → Vp c b = V c b) :
    Pipeline.RegionSeg (pcfgs (F := F)) adm (pdats V B) none defs₀ 𝒱₀ (K (F := F)).L (K (F := F)).lev 1 :=
  reg V B Vp 1 winFacts₀1 sharedIn1 block_pos1 arr_whole1 stage_whole1 (body1 V B) (fun _ _ => rfl) (fun _ _ => rfl) rfl (fun _ _ => rfl)
    (fun _ _ => rfl) (fun _ _ => rfl)
    (fun c w => match w with
      | ⟨0, _⟩ => ((dat1 V B c).arrAt_in 0 rfl _).trans (hne c main_v4 (by decide)).symm
      | ⟨1, _⟩ => ((dat1 V B c).arrAt_in 1 rfl _).trans (hne c main_v4 (by decide)).symm
      | ⟨2, _⟩ => (h c).symm)
    (fun c b hb => hne c b fun e => hb (e ▸ Finset.mem_image.mpr ⟨(2 : Fin 3), Finset.mem_univ _, rfl⟩))

set_option backward.isDefEq.respectTransparency.types false in
/-- The last. -/
def reg3 (h2 : ∀ c, Vp c main_v13_0 = tailOut2 V B c) (h3 : ∀ c, Vp c main_v13_1 = tailOut3 V B c)
    (hne : ∀ c (b : Ref sig .tc), b ≠ main_v13_0 → b ≠ main_v13_1 → Vp c b = V c b) :
    Pipeline.RegionSeg (pcfgs (F := F)) adm (pdats V B) none defs₀ 𝒱₀ (K (F := F)).L (K (F := F)).lev 2 :=
  reg V B Vp 2 winFacts3.to₀ (by decide) block_pos3 arr_whole3 stage_whole3 (body3 V B) (fun _ _ => rfl) (fun _ _ => rfl) rfl (fun _ _ => rfl)
    (fun _ _ => rfl) (fun _ _ => rfl)
    (fun c w => match w with
      | ⟨0, _⟩ => ((dat3 V B c).arrAt_in 0 rfl _).trans (hne c main_v11 (by decide) (by decide)).symm
      | ⟨1, _⟩ => ((dat3 V B c).arrAt_in 1 rfl _).trans (hne c main_v12 (by decide) (by decide)).symm
      | ⟨2, _⟩ => (h2 c).symm
      | ⟨3, _⟩ => (h3 c).symm)
    (fun c b hb => hne c b (fun e => hb (e ▸ Finset.mem_image.mpr ⟨(2 : Fin 4), Finset.mem_univ _, rfl⟩))
      (fun e => hb (e ▸ Finset.mem_image.mpr ⟨(3 : Fin 4), Finset.mem_univ _, rfl⟩)))

end Cert.Proof.I

end
-- ==== Proof.ScMain.lean ====
/-
  The kernel's program on a device's TensorCore, with the contents of every array: host operations stack the two tables
  and their vectors, one TensorCore pipeline fills the table of normalised rows from them and a second the table that the
  SparseCore call gathers from; host operations make the two lists of row numbers, the call fills its two results with the
  gathered rows, two reshapes follow and the last pipeline leaves the kernel's two results. `V4` is what the arrays hold at
  the end.
-/
module

public import proofs.«01_k».proof.Proof.ScLaunch
public import proofs.«01_k».proof.Proof.TcRegion

@[expose] public section

set_option maxRecDepth 16384

noncomputable section

namespace Cert.Proof.I

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (cellsGhost toksInit pin ucRefs)
open Idealize.ShloMosaic.StableHlo (held after seq devRef_ne_of_ne)

variable {F : FTy → Type} [FloatOps F] [Named F]

local notation "𝕄" => MT nD τ sig (HIx 1) (Elt F) ℕ UU ℕ

/-! ## The host operations -/

/-- The operations before the pipelines: the two tables stacked, the two lists of vectors stacked. -/
def opsA : List (HloOp τ sig (Elt F)) :=
  [StableHlo.binary main_arg0 main_arg1 main_v0 (fun a b => concatenate S16384x64 0 [⟨S8192x64, a⟩, ⟨S8192x64, b⟩] concatenates_S8192x64_S8192x64_S16384x64_d0),
    StableHlo.reshape main_arg4 main_v1 (rfl : (.f32 : EltTy) = .f32) shapeCasts_S6x64x1_S1x6x64,
    StableHlo.reshape main_arg5 main_v2 (rfl : (.f32 : EltTy) = .f32) shapeCasts_S6x64x1_S1x6x64,
    StableHlo.binary main_v1 main_v2 main_v3 (fun a b => concatenate S2x6x64 0 [⟨S1x6x64, a⟩, ⟨S1x6x64, b⟩] concatenates_S1x6x64_S1x6x64_S2x6x64_d0)]

/-- The operations before the call: the source list reshaped; `8192` added to every target and the list reshaped. -/
def ops0 : List (HloOp τ sig (Elt F)) :=
  [StableHlo.reshape main_arg2 main_v6 (rfl : (.i32 : EltTy) = .i32) shapeCasts_S1024x16_S32x4x128,
    StableHlo.nullary main_c (constantI S_ 32 8192#32),
    StableHlo.unary main_c main_v7 (broadcastInDim S1024x16 ![] bcast_S_S1024x16),
    StableHlo.binary main_arg3 main_v7 main_v8 addi,
    StableHlo.reshape main_v8 main_v9 (rfl : (.i32 : EltTy) = .i32) shapeCasts_S1024x16_S32x4x128]

/-- The operations after it: the gathered rows as two arrays of 16384 rows. -/
def ops1 : List (HloOp τ sig (Elt F)) :=
  [StableHlo.reshape main_v10_0 main_v11 (rfl : (.f32 : EltTy) = .f32) shapeCasts_S32x512x128_S16384x128,
    StableHlo.reshape main_v10_1 main_v12 (rfl : (.f32 : EltTy) = .f32) shapeCasts_S32x512x128_S16384x128]

theorem main_eq (d : Dev nD) : main (F := F) d = (do
    seq opsA
    SparseCore.liftProg (.op (.customCall (Pipeline.entry 0) ()) .ret)
    SparseCore.liftProg (.op (.customCall (Pipeline.entry 1) ()) .ret)
    seq ops0
    (K (F := F)).run d 0
    seq ops1
    SparseCore.liftProg (.op (.customCall (Pipeline.entry 2) ()) .ret)) := by
  simp only [main, opsA, ops0, ops1, seq, bind_assoc, pure_bind]; rfl

theorem opsA_sub : ∀ op ∈ opsA (F := F), op.bufs ⊆ ucRefs τ sig := fun op h =>
  Pipeline.sub_ucRefs op (by
    simp only [opsA, List.mem_cons, List.not_mem_nil, or_false] at h
    rcases h with rfl | rfl | rfl | rfl
    · exact StableHlo.binary_bufs_sub ..
    · exact StableHlo.reshape_bufs_sub ..
    · exact StableHlo.reshape_bufs_sub ..
    · exact StableHlo.binary_bufs_sub ..)
theorem opsA_fresh : ∀ op ∈ opsA (F := F), op.fresh = ∅ := fun op h => by
  simp only [opsA, List.mem_cons, List.not_mem_nil, or_false] at h
  rcases h with rfl | rfl | rfl | rfl <;> rfl
theorem ops0_sub : ∀ op ∈ ops0 (F := F), op.bufs ⊆ ucRefs τ sig := fun op h =>
  Pipeline.sub_ucRefs op (by
    simp only [ops0, List.mem_cons, List.not_mem_nil, or_false] at h
    rcases h with rfl | rfl | rfl | rfl | rfl
    · exact StableHlo.reshape_bufs_sub ..
    · exact StableHlo.nullary_bufs_sub ..
    · exact StableHlo.unary_bufs_sub ..
    · exact StableHlo.binary_bufs_sub ..
    · exact StableHlo.reshape_bufs_sub ..)
theorem ops0_fresh : ∀ op ∈ ops0 (F := F), op.fresh = ∅ := fun op h => by
  simp only [ops0, List.mem_cons, List.not_mem_nil, or_false] at h
  rcases h with rfl | rfl | rfl | rfl | rfl <;> rfl
theorem ops1_sub : ∀ op ∈ ops1 (F := F), op.bufs ⊆ ucRefs τ sig := fun op h =>
  Pipeline.sub_ucRefs op (by
    simp only [ops1, List.mem_cons, List.not_mem_nil, or_false] at h
    rcases h with rfl | rfl <;> exact StableHlo.reshape_bufs_sub ..)
theorem ops1_fresh : ∀ op ∈ ops1 (F := F), op.fresh = ∅ := fun op h => by
  simp only [ops1, List.mem_cons, List.not_mem_nil, or_false] at h
  rcases h with rfl | rfl <;> rfl

variable (m : (ℓ : Loc nD τ sig) → Buf (Elt F) ℓ) (ρ : Dev nD → PrngReg)

/-! ## The contents of the arrays -/

/-- The waits recorded before call `n`: those below its end. -/
def below (n : ℕ) (d : Dev nD) : Set (SemLoc sig × HIx 1) := {p | (K (F := F)).lev ((SparseCore.T d : Thread nD τ), p.1) p.2 ≤ 8 * SparseCore.Cfg.Blocks.fst (Q := 1) (N := 1) n}

/-- When the first pipeline starts, -/
def U0 (d : Dev nD) : Valuation τ sig (Elt F) := after opsA fun b => m (d, b)

/-- when the second does, -/
def U1 (d : Dev nD) : Valuation τ sig (Elt F) := Function.update (U0 m d) main_v4 (normOut (fun c b => U0 m c b) (below (F := F) 0) d)

/-- and when it has ended. -/
def U2 (d : Dev nD) : Valuation τ sig (Elt F) := Function.update (U1 m d) main_v5 (topOut (fun c b => U1 m c b) (below (F := F) 0) d)

/-- At the call. -/
def V1 (d : Dev nD) : Valuation τ sig (Elt F) := after ops0 (U2 m d)

abbrev X₀ (d : Dev nD) : Buf (Elt F) (xLoc d) := V1 m d main_v5
abbrev I₀ (d : Dev nD) : Buf (Elt F) (siLoc d) := V1 m d main_v6
abbrev J₀ (d : Dev nD) : Buf (Elt F) (tiLoc d) := V1 m d main_v9
abbrev o₀ (d : Dev nD) : Buf (Elt F) (oLoc d) := V1 m d main_v10_0
abbrev p₀ (d : Dev nD) : Buf (Elt F) (pLoc d) := V1 m d main_v10_1

/-- After the call: its results at the gathered rows. -/
def V2 (d : Dev nD) : Valuation τ sig (Elt F) :=
  Function.update (Function.update (V1 m d) main_v10_0 (gathO (X₀ m) (I₀ m) d)) main_v10_1 (gathP (X₀ m) (J₀ m) d)

/-- When the TensorCore pipeline starts. -/
def V3 (d : Dev nD) : Valuation τ sig (Elt F) := after ops1 (V2 m d)

/-- At the end. -/
def V4 (d : Dev nD) : Valuation τ sig (Elt F) :=
  Function.update (Function.update (V3 m d) main_v13_0 (tailOut2 (fun c b => V3 m c b) (below (F := F) 1) d)) main_v13_1 (tailOut3 (fun c b => V3 m c b) (below (F := F) 1) d)

/-! ## The five arrays of the call among the held buffers -/

def T5 : Finset (DevRef τ sig) := {(main_v5 : DevRef τ sig), (main_v6 : DevRef τ sig), (main_v9 : DevRef τ sig), (main_v10_0 : DevRef τ sig), (main_v10_1 : DevRef τ sig)}

theorem T5_sub : T5 ⊆ ucRefs τ sig := by decide

theorem held_five (d : Dev nD) (W : Dev nD → Valuation τ sig (Elt F)) :
    (held (d.tc : Thread nD τ) T5 (W d) : sProp 𝕄)
      = five (fun d => W d main_v5) (fun d => W d main_v6) (fun d => W d main_v9) (fun d => W d main_v10_0) (fun d => W d main_v10_1) d := by
  unfold held T5
  rw [SparseCore.bigSep_insert' (by decide), SparseCore.bigSep_insert' (by decide), SparseCore.bigSep_insert' (by decide),
    SparseCore.bigSep_insert' (by decide), bigSep_singleton]

theorem V2_arg0 (d : Dev nD) : V2 m d main_v5 = V1 m d main_v5 := by
  unfold V2; rw [Function.update_of_ne (devRef_ne_of_ne (by decide)), Function.update_of_ne (devRef_ne_of_ne (by decide))]
theorem V2_v0 (d : Dev nD) : V2 m d main_v6 = V1 m d main_v6 := by
  unfold V2; rw [Function.update_of_ne (devRef_ne_of_ne (by decide)), Function.update_of_ne (devRef_ne_of_ne (by decide))]
theorem V2_v3 (d : Dev nD) : V2 m d main_v9 = V1 m d main_v9 := by
  unfold V2; rw [Function.update_of_ne (devRef_ne_of_ne (by decide)), Function.update_of_ne (devRef_ne_of_ne (by decide))]
theorem V2_v4_0 (d : Dev nD) : V2 m d main_v10_0 = gathO (X₀ m) (I₀ m) d := by
  unfold V2; rw [Function.update_of_ne (devRef_ne_of_ne (by decide)), Function.update_self]
theorem V2_v4_1 (d : Dev nD) : V2 m d main_v10_1 = gathP (X₀ m) (J₀ m) d := by
  unfold V2; rw [Function.update_self]

theorem V2_off (d : Dev nD) (b : DevRef τ sig) (h : b ∉ T5) : V2 m d b = V1 m d b := by
  unfold V2
  rw [Function.update_of_ne fun e => h (by rw [e]; decide), Function.update_of_ne fun e => h (by rw [e]; decide)]

theorem held_before (d : Dev nD) :
    (held (d.tc : Thread nD τ) (ucRefs τ sig) (V1 m d) : sProp 𝕄)
      = iprop(five (X₀ m) (I₀ m) (J₀ m) (o₀ m) (p₀ m) d ∗ held (d.tc : Thread nD τ) (ucRefs τ sig \ T5) (V1 m d)) := by
  rw [StableHlo.held_sub_split _ T5_sub, held_five d (V1 m)]

theorem held_after (d : Dev nD) :
    (held (d.tc : Thread nD τ) (ucRefs τ sig) (V2 m d) : sProp 𝕄)
      = iprop(five (X₀ m) (I₀ m) (J₀ m) (gathO (X₀ m) (I₀ m)) (gathP (X₀ m) (J₀ m)) d ∗ held (d.tc : Thread nD τ) (ucRefs τ sig \ T5) (V1 m d)) := by
  rw [StableHlo.held_sub_split _ T5_sub, held_five d (V2 m)]
  rw [show (fun d => V2 m d main_v5) = X₀ m from funext (V2_arg0 m), show (fun d => V2 m d main_v6) = I₀ m from funext (V2_v0 m),
    show (fun d => V2 m d main_v9) = J₀ m from funext (V2_v3 m), show (fun d => V2 m d main_v10_0) = gathO (X₀ m) (I₀ m) from funext (V2_v4_0 m),
    show (fun d => V2 m d main_v10_1) = gathP (X₀ m) (J₀ m) from funext (V2_v4_1 m)]
  rw [show (held (d.tc : Thread nD τ) (ucRefs τ sig \ T5) (V2 m d) : sProp 𝕄) = held (d.tc : Thread nD τ) (ucRefs τ sig \ T5) (V1 m d) from by
    unfold held
    exact bigSep_congr fun b hb => by rw [V2_off m d b (Finset.mem_sdiff.mp hb).2]]

/-! ## The program -/

abbrev EP : Emb (UR sig nD τ) (MT nD τ sig (HIx 1) (Elt F) ℕ UU ℕ) := (Emb.inl : Emb (UR sig nD τ) (UR sig nD τ × Counters)).trans embR

abbrev G1 (p : Fin 3) (d : Dev nD) : sProp 𝕄 := iprop(cellsGhost (pin (pcfgs (F := F)) adm) EP p d ∗ toksInit (pin (pcfgs (F := F)) adm) EP p d)

abbrev G (d : Dev nD) : sProp 𝕄 := bigSep Finset.univ fun p : Fin 3 => G1 (F := F) p d

theorem G_eq (d : Dev nD) : G (F := F) d = iprop(G1 0 d ∗ G1 1 d ∗ G1 2 d) := by
  rw [G, show (Finset.univ : Finset (Fin 3)) = {0, 1, 2} from rfl, SparseCore.bigSep_insert' (by decide), SparseCore.bigSep_insert' (by decide),
    bigSep_singleton]

abbrev P₀ := P (X₀ m) (I₀ m) (J₀ m) (o₀ m) (p₀ m)

abbrev FIN (d : Dev nD) : sProp 𝕄 := held (d.tc : Thread nD τ) (ucRefs τ sig) (V4 m d)

theorem lev_below {n : ℕ} {d : Dev nD} {p : SemLoc sig × HIx 1} (h : p ∈ below (F := F) n d ∨ p.2 = none) :
    (K (F := F)).lev ((SparseCore.T d : Thread nD τ), p.1) p.2 ≤ 8 * SparseCore.Cfg.Blocks.fst (Q := 1) (N := 1) n := by
  rcases h with h | h
  · exact h
  · rw [show (K (F := F)).lev ((SparseCore.T d : Thread nD τ), p.1) p.2 = 0 by rw [h]; rfl]; exact Nat.zero_le _

/-- The first pipeline entered from the contents `U0`, -/
abbrev regA : Pipeline.RegionSeg (pcfgs (F := F)) adm (pdats (fun c b => U0 m c b) (below (F := F) 0)) none defs₀ 𝒱₀ (K (F := F)).L (K (F := F)).lev 0 :=
  reg0 (fun c b => U0 m c b) (below (F := F) 0) (fun c b => U1 m c b) (fun c => by unfold U1; rw [Function.update_self])
    (fun c b h => by unfold U1; rw [Function.update_of_ne (devRef_ne_of_ne h)])

/-- the second from `U1`, -/
abbrev regB : Pipeline.RegionSeg (pcfgs (F := F)) adm (pdats (fun c b => U1 m c b) (below (F := F) 0)) none defs₀ 𝒱₀ (K (F := F)).L (K (F := F)).lev 1 :=
  reg1 (fun c b => U1 m c b) (below (F := F) 0) (fun c b => U2 m c b) (fun c => by unfold U2; rw [Function.update_self])
    (fun c b h => by unfold U2; rw [Function.update_of_ne (devRef_ne_of_ne h)])

/-- the last from `V3`. -/
abbrev reg₀ : Pipeline.RegionSeg (pcfgs (F := F)) adm (pdats (fun c b => V3 m c b) (below (F := F) 1)) none defs₀ 𝒱₀ (K (F := F)).L (K (F := F)).lev 2 :=
  reg3 (fun c b => V3 m c b) (below (F := F) 1) (fun c b => V4 m c b)
    (fun c => by unfold V4; rw [Function.update_of_ne (devRef_ne_of_ne (by decide)), Function.update_self])
    (fun c => by unfold V4; rw [Function.update_self])
    (fun c b h2 h3 => by unfold V4; rw [Function.update_of_ne (devRef_ne_of_ne h3), Function.update_of_ne (devRef_ne_of_ne h2)])

theorem regA_pre (d : Dev nD) : (regA m).pre d = iprop(unscopedBufs d (fun b => U0 m d b)
    ∗ ∃ W, ⌜∀ p ∈ W, p ∈ below (F := F) 0 d⌝ ∗ owes (d.tc : Thread nD τ) ((K (F := F)).Otc d 0) W) := rfl
theorem regA_post (d : Dev nD) : (regA m).post d = iprop(unscopedBufs d (fun b => U1 m d b)
    ∗ ∃ W, ⌜∀ p ∈ W, p ∈ below (F := F) 0 d ∨ p.2 = none⌝ ∗ owes (d.tc : Thread nD τ) ((K (F := F)).Otc d 0) W) := rfl
theorem regB_pre (d : Dev nD) : (regB m).pre d = iprop(unscopedBufs d (fun b => U1 m d b)
    ∗ ∃ W, ⌜∀ p ∈ W, p ∈ below (F := F) 0 d⌝ ∗ owes (d.tc : Thread nD τ) ((K (F := F)).Otc d 0) W) := rfl
theorem regB_post (d : Dev nD) : (regB m).post d = iprop(unscopedBufs d (fun b => U2 m d b)
    ∗ ∃ W, ⌜∀ p ∈ W, p ∈ below (F := F) 0 d ∨ p.2 = none⌝ ∗ owes (d.tc : Thread nD τ) ((K (F := F)).Otc d 0) W) := rfl
theorem reg₀_pre (d : Dev nD) : (reg₀ m).pre d = iprop(unscopedBufs d (fun b => V3 m d b)
    ∗ ∃ W, ⌜∀ p ∈ W, p ∈ below (F := F) 1 d⌝ ∗ owes (d.tc : Thread nD τ) (0 : CellTallies nD τ sig (HIx 1)) W) := rfl
theorem reg₀_post (d : Dev nD) : (reg₀ m).post d = iprop(unscopedBufs d (fun b => V4 m d b)
    ∗ ∃ W, ⌜∀ p ∈ W, p ∈ below (F := F) 1 d ∨ p.2 = none⌝ ∗ owes (d.tc : Thread nD τ) (0 : CellTallies nD τ sig (HIx 1)) W) := rfl

theorem hmain [∀ e, Nonempty (Elt F e)] (κ : GSem nD τ sig → ℕ) (d : Dev nD) :
    iprop((K (F := F)).ctx EH (P₀ m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (fun b => m (d, b)) from
    Pipeline.unscopedBufs_held (Ix := HIx 1) (Name := ℕ) (U := UU) (Lvl := ℕ) d (fun b => m (d, b)), main_eq, G_eq]
  iintro ⟨#Hctx, Hst, ⟨Hb, Hh, Hts, -⟩, ⟨Hg0, Ht0⟩, ⟨Hg1, Ht1⟩, Hg, Ht⟩
  iapply (StableHlo.wp_seq 𝒱 none Set.univ d (ucRefs τ sig) _ opsA opsA_sub opsA_fresh _) $$ [Hb Hh]
  · isplitl [Hb] <;> iassumption
  rw [show after opsA (fun b => m (d, b)) = U0 m d from rfl]
  iintro ⟨Hb, Hh⟩
  unfold SparseCore.Cfg.tcSt
  icases Hst with ⟨⟨%W, %hW, HO⟩, Hst⟩
  -- the first pipeline
  rw [wp_bind]
  iapply ((K (F := F)).wp_liftProg (D (F := F)) 𝒱 (SparseCore.T d) Set.univ none _ _)
  iapply ((regA m).wp pcfgs adm (pdats (fun c b => U0 m c b) (below (F := F) 0)) none cellOf_inj EP defs₀ 𝒱₀ (K (F := F)).L (K (F := F)).lev d none
    (fun _ h => nomatch h) .ret _)
  rw [regA_pre, regA_post]
  isplitr [Hb Hh HO Hg0 Ht0]
  swap
  · isplitl [Hb]; · iexact Hb
    isplitl [Hh HO]
    · isplitl [Hh]
      · iapply (Entails.of_eq (Pipeline.unscopedBufs_held (Ix := HIx 1) (Name := ℕ) (U := UU) (Lvl := ℕ) d (U0 m d)).symm); iexact Hh
      iexists W; isplitr
      · ipureintro; exact hW
      iexact HO
    isplitr; · iapply ((K (F := F)).ctx_levAts κ); iexact Hctx
    isplitl [Hg0] <;> iassumption
  iintro ⟨Hb, Hub, ⟨%W', %hW', HO⟩⟩
  rw [wp_ret]; imodintro
  -- the second
  rw [wp_bind]
  iapply ((K (F := F)).wp_liftProg (D (F := F)) 𝒱 (SparseCore.T d) Set.univ none _ _)
  iapply ((regB m).wp pcfgs adm (pdats (fun c b => U1 m c b) (below (F := F) 0)) none cellOf_inj EP defs₀ 𝒱₀ (K (F := F)).L (K (F := F)).lev d none
    (fun _ h => nomatch h) .ret _)
  rw [regB_pre, regB_post]
  isplitr [Hb Hub HO Hg1 Ht1]
  swap
  · isplitl [Hb]; · iexact Hb
    isplitl [Hub HO]
    · isplitl [Hub]; · iexact Hub
      iexists W'; isplitr
      · ipureintro; exact fun p hp => lev_below (hW' p hp)
      iexact HO
    isplitr; · iapply ((K (F := F)).ctx_levAts κ); iexact Hctx
    isplitl [Hg1] <;> iassumption
  iintro ⟨Hb, Hub, ⟨%W2, %hW2, HO⟩⟩
  rw [wp_ret]; imodintro
  ihave Hh := (Entails.of_eq (Pipeline.unscopedBufs_held (Ix := HIx 1) (Name := ℕ) (U := UU) (Lvl := ℕ) d (U2 m d))) $$ Hub
  -- the lists and the call
  iapply (StableHlo.wp_seq 𝒱 none Set.univ d (ucRefs τ sig) _ ops0 ops0_sub ops0_fresh _) $$ [Hb Hh]
  · isplitl [Hb] <;> iassumption
  rw [show after ops0 (U2 m d) = V1 m d from rfl, held_before, wp_bind]
  iintro ⟨Hb, H5, Hrest⟩
  ihave H := (deal (X₀ m) (I₀ m) (J₀ m) (o₀ m) (p₀ m) d) $$ H5
  icases H with ⟨Hp, Hk⟩
  iapply ((K (F := F)).wp_run (D (F := F)) 𝒱 (EH := EH) (P := P₀ m) κ d 0) $$ [Hst HO Hp Hk Hb Hts Hg Ht Hrest]
  isplitr; · iexact Hctx
  isplitl [Hst HO]
  · unfold SparseCore.Cfg.tcSt
    isplitl [HO]
    · iexists W2; isplitr
      · ipureintro; exact fun p hp => lev_below (hW2 p hp)
      iexact HO
    iexact Hst
  isplitl [Hp]; · iexact Hp
  iintro ⟨Hst, Hdn⟩
  ihave H5 := (undeal (X₀ m) (I₀ m) (J₀ m) (o₀ m) (p₀ m) d) $$ [Hdn Hk]
  · isplitl [Hdn] <;> iassumption
  ihave Hh := (Entails.of_eq (held_after m d).symm) $$ [H5 Hrest]
  · isplitl [H5] <;> iassumption
  iapply (StableHlo.wp_seq 𝒱 none Set.univ d (ucRefs τ sig) _ ops1 ops1_sub ops1_fresh _) $$ [Hb Hh]
  · isplitl [Hb] <;> iassumption
  rw [show after ops1 (V2 m d) = V3 m d from rfl]
  iintro ⟨Hb, Hh⟩
  -- the last pipeline
  iapply ((K (F := F)).wp_liftProg (D (F := F)) 𝒱 (SparseCore.T d) Set.univ none _ _)
  unfold SparseCore.Cfg.tcSt
  icases Hst with ⟨⟨%W3, %hW3, HO⟩, Hst⟩
  rw [show (K (F := F)).Otc d ((0 : Fin 1).val + 1) = 0 from (K (F := F)).Otc_end d (le_refl 1)]
  iapply ((reg₀ m).wp pcfgs adm (pdats (fun c b => V3 m c b) (below (F := F) 1)) none cellOf_inj EP defs₀ 𝒱₀ (K (F := F)).L (K (F := F)).lev d none
    (fun _ h => nomatch h) .ret _)
  rw [reg₀_pre, reg₀_post]
  isplitl [Hst Hts]
  · iintro ⟨Hb, Hub, ⟨%W', %hW', HO⟩⟩
    rw [wp_ret]; imodintro
    isplitl [HO Hst]
    · isplitl [HO]
      · iexists W'; isplitr
        · ipureintro; exact fun p hp => lev_below (hW' p hp)
        · rw [show (K (F := F)).Otc d 1 = 0 from (K (F := F)).Otc_end d (le_refl 1)]; iexact HO
      iexact Hst
    isplitl [Hub]
    · iapply (Entails.of_eq (Pipeline.unscopedBufs_held (Ix := HIx 1) (Name := ℕ) (U := UU) (Lvl := ℕ) d (V4 m d))); iexact Hub
    isplitl [Hb] <;> iassumption
  isplitl [Hb]; · iexact Hb
  isplitl [Hh HO]
  · isplitl [Hh]
    · iapply (Entails.of_eq (Pipeline.unscopedBufs_held (Ix := HIx 1) (Name := ℕ) (U := UU) (Lvl := ℕ) d (V3 m d)).symm); iexact Hh
    iexists W3; isplitr
    · ipureintro; exact hW3
    iexact HO
  isplitr; · iapply ((K (F := F)).ctx_levAts κ); iexact Hctx
  isplitl [Hg] <;> iassumption

/-! ## The launch element of the ghost state -/

def u₀ : UU := (initOf (K (F := F)).hsCells (K (F := F)).hsToks,
  (initOf (Pipeline.cells (nD := nD) (τ := τ) (pin (pcfgs (F := F)) adm) cellOf_inj) (Pipeline.launchToks (nD := nD) (τ := τ) (pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P₀ m).x q thr) := by
  unfold u₀
  iintro Hu
  ihave H := (ownU_pair (initOf (K (F := F)).hsCells (K (F := F)).hsToks) _) $$ Hu
  icases H with ⟨HH, HR⟩
  ihave H := (own_pair_emb embR (initOf (Pipeline.cells (nD := nD) (τ := τ) (pin (pcfgs (F := F)) adm) cellOf_inj) (Pipeline.launchToks (nD := nD) (τ := τ) (pin (pcfgs (F := F)) adm) cellOf_inj)) (1 : Counters)) $$ HR
  icases H with ⟨HE, -⟩
  ihave H := (Pipeline.fund_ghost (pin (pcfgs (F := F)) adm) (EP (F := F)) cellOf_inj) $$ HE
  imod H with ⟨Hg, Ht⟩
  imodintro
  isplitl [HH]; · iexact HH
  isplitl [Hg Ht]
  · rw [show (bigSep Finset.univ fun d : Dev nD => G (F := F) d)
        = (iprop((bigSep Finset.univ fun c : Dev nD => bigSep Finset.univ fun p : Fin 3 => cellsGhost (pin (pcfgs (F := F)) adm) EP p c)
          ∗ bigSep Finset.univ fun c : Dev nD => bigSep Finset.univ fun p : Fin 3 => toksInit (pin (pcfgs (F := F)) adm) EP p c) : sProp 𝕄) from by
      rw [← bigSep_sep']
      exact bigSep_congr fun c _ => by rw [← bigSep_sep']]
    isplitl [Hg] <;> iassumption
  rw [show (bigSep Finset.univ fun thr : Thread nD τ => bigSep Finset.univ fun q : Fin 1 => (P₀ (F := F) m).x q thr) = bigSep Finset.univ fun _ => iprop(emp) from
    bigSep_congr fun _ _ => (bigSep_univ_of_subsingleton (0 : Fin 1)),
    show (bigSep Finset.univ fun _ : Thread nD τ => iprop(emp)) = (iprop(emp) : sProp 𝕄) from bigSep_emp_const _]
  iempintro

/-! ## The run -/

/-- Every unscoped array of the TensorCore is at `V4`. -/
def fq (d : Dev nD) (s' : Phys nD τ sig (Elt F)) : Prop := ∀ b ∈ ucRefs τ sig, s'.mem.mem (d, b) = V4 m d b

theorem hfin (d : Dev nD) (s' : Phys nD τ sig (Elt F)) : iprop(FIN m d ∗ SI s') ⊢ (⌜fq m d s'⌝ : sProp 𝕄) := by
  unfold fq
  refine (Laws.forall_intro fun b => Laws.forall_intro fun hb => ?_ : iprop(FIN m d ∗ SI s') ⊢ iprop(∀ b : DevRef τ sig, ∀ _ : b ∈ ucRefs τ sig, ⌜s'.mem.mem (d, b) = V4 m d b⌝)).trans
    ((Laws.forall_mono fun _ => Laws.pure_forall.2).trans Laws.pure_forall.2)
  have hone : (FIN m d : sProp 𝕄) ⊢ iprop(((d, b) : Loc nD τ sig) ↦{fullShare} V4 m d b) :=
    bigSep_elim (M := 𝕄) (Φ := fun b : DevRef τ sig => ((d, b) : Loc nD τ sig) ↦{fullShare} V4 m d b) hb
  iintro ⟨H, HSI⟩
  ihave Hb := hone $$ H
  ihave H := (SI_pointsTo_agree (st := s') (ℓ := (d, b)) (I := Finset.univ) (q := fullShare) (f := V4 m d b)) $$ [HSI Hb]
  · isplitl [HSI] <;> iassumption
  icases H with %h
  ipureintro; exact funext fun i => h i (Finset.mem_univ i)

def QC : PUnit × MemSt nD τ sig (Elt F) → Prop := fun r => (∀ c : Dev nD, ∀ b ∈ ucRefs τ sig, r.2.mem (c, b) = V4 m c b) ∧ r.2.sem = fun _ => 0

/-- The kernel's run from a memory whose lists name rows of the table: every array of the TensorCore ends at `V4`. -/
theorem run_main [∀ e, Nonempty (Elt F e)] (h : InRange (I₀ m) (J₀ m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P₀ m) (A := ∅) facts v₀
    (fun q hq => match q with | 0 => nomatch hq)
    (fun q _ => match q with | 0 => tileObl (X₀ m) (I₀ m) (J₀ m) (o₀ m) (p₀ m) h)
    (fun q _ => match q with | 0 => SparseCore.Cfg.VecSplit.of_plain (vecSplit (X₀ m) (I₀ m) (J₀ m) (o₀ m) (p₀ m)))
    m ρ main (fun d => G (F := F) d) (FIN m) (u₀ (F := F)) (sep_elim_left.trans (hu₀ m)) (hmain m ρ) (fq m) (hfin m) (QC m) (fun _ h hz => ⟨h, hz⟩)

end Cert.Proof.I

end
-- ==== Proof.KernelArrays.lean ====
/-
  What the kernel's arrays hold in terms of its arguments: the rows of the table that the two lists name, list after list.
-/
module

public import proofs.«01_k».proof.Proof.ScMain
public import Idealize.ShloMosaic.Lib.Pipeline.ValueKit

@[expose] public section

set_option maxRecDepth 16384

noncomputable section

namespace Cert.Proof.I

open Cert.KernelIdeal Cert.KernelIdeal.Gen

open Idealize.ShloMosaic Idealize.ShloMosaic.TcCoe Idealize.SL.Sem
open Idealize.ShloMosaic.SparseCore.Cfg (HIx)
open Idealize.ShloMosaic.StableHlo (after)

variable {F : FTy → Type} [FloatOps F] [Named F]
variable (m : (ℓ : Loc nD τ sig) → Buf (Elt F) ℓ)

theorem U0_v0 (c : Dev nD) : U0 m c main_v0 = concatenate S16384x64 0 [⟨S8192x64, m ((c : Thread nD τ).loc main_arg0)⟩, ⟨S8192x64, m ((c : Thread nD τ).loc main_arg1)⟩]
    concatenates_S8192x64_S8192x64_S16384x64_d0 := by
  unfold U0 opsA; after_results <;> rfl
theorem U0_v3 (c : Dev nD) : U0 m c main_v3 = concatenate S2x6x64 0 [⟨S1x6x64, shapeCast S1x6x64 (m ((c : Thread nD τ).loc main_arg4)) shapeCasts_S6x64x1_S1x6x64⟩,
    ⟨S1x6x64, shapeCast S1x6x64 (m ((c : Thread nD τ).loc main_arg5)) shapeCasts_S6x64x1_S1x6x64⟩] concatenates_S1x6x64_S1x6x64_S2x6x64_d0 := by
  unfold U0 opsA; after_results <;> rfl

/-- The pipelines' results, and the rows of the table. -/
abbrev normRows (c : Dev nD) : FVec F S16384x64 .f32 := normOut (fun c b => U0 m c b) (below (F := F) 0) c
abbrev table (c : Dev nD) : FVec F S16384x128 .f32 := topOut (fun c b => U1 m c b) (below (F := F) 0) c

theorem U1_v4 (c : Dev nD) : U1 m c main_v4 = normRows m c := by unfold U1; rw [Function.update_self]
theorem U2_v5 (c : Dev nD) : U2 m c main_v5 = table m c := by unfold U2; rw [Function.update_self]

theorem U2_ne (c : Dev nD) (b : Ref sig .tc) (h4 : b ≠ main_v4) (h5 : b ≠ main_v5) : U2 m c b = U0 m c b := by
  unfold U2 U1; rw [Function.update_of_ne (StableHlo.devRef_ne_of_ne h5), Function.update_of_ne (StableHlo.devRef_ne_of_ne h4)]

theorem U2_arg0 (c : Dev nD) : U2 m c main_arg0 = m ((c : Thread nD τ).loc main_arg0) := by
  rw [U2_ne m c main_arg0 (by decide) (by decide)]; unfold U0 opsA; after_results <;> rfl
theorem U2_arg1 (c : Dev nD) : U2 m c main_arg1 = m ((c : Thread nD τ).loc main_arg1) := by
  rw [U2_ne m c main_arg1 (by decide) (by decide)]; unfold U0 opsA; after_results <;> rfl
theorem U2_arg2 (c : Dev nD) : U2 m c main_arg2 = m ((c : Thread nD τ).loc main_arg2) := by
  rw [U2_ne m c main_arg2 (by decide) (by decide)]; unfold U0 opsA; after_results <;> rfl
theorem U2_arg3 (c : Dev nD) : U2 m c main_arg3 = m ((c : Thread nD τ).loc main_arg3) := by
  rw [U2_ne m c main_arg3 (by decide) (by decide)]; unfold U0 opsA; after_results <;> rfl
theorem U2_arg4 (c : Dev nD) : U2 m c main_arg4 = m ((c : Thread nD τ).loc main_arg4) := by
  rw [U2_ne m c main_arg4 (by decide) (by decide)]; unfold U0 opsA; after_results <;> rfl
theorem U2_arg5 (c : Dev nD) : U2 m c main_arg5 = m ((c : Thread nD τ).loc main_arg5) := by
  rw [U2_ne m c main_arg5 (by decide) (by decide)]; unfold U0 opsA; after_results <;> rfl

theorem V1_v5 (c : Dev nD) : V1 m c main_v5 = table m c := by
  rw [← U2_v5]; unfold V1 ops0; after_results <;> rfl
theorem V1_arg0 (c : Dev nD) : V1 m c main_arg0 = m ((c : Thread nD τ).loc main_arg0) := by
  rw [← U2_arg0 m c]; unfold V1 ops0; after_results <;> rfl
theorem V1_arg1 (c : Dev nD) : V1 m c main_arg1 = m ((c : Thread nD τ).loc main_arg1) := by
  rw [← U2_arg1 m c]; unfold V1 ops0; after_results <;> rfl
theorem V1_arg2 (c : Dev nD) : V1 m c main_arg2 = m ((c : Thread nD τ).loc main_arg2) := by
  rw [← U2_arg2 m c]; unfold V1 ops0; after_results <;> rfl
theorem V1_arg3 (c : Dev nD) : V1 m c main_arg3 = m ((c : Thread nD τ).loc main_arg3) := by
  rw [← U2_arg3 m c]; unfold V1 ops0; after_results <;> rfl
theorem V1_arg4 (c : Dev nD) : V1 m c main_arg4 = m ((c : Thread nD τ).loc main_arg4) := by
  rw [← U2_arg4 m c]; unfold V1 ops0; after_results <;> rfl
theorem V1_arg5 (c : Dev nD) : V1 m c main_arg5 = m ((c : Thread nD τ).loc main_arg5) := by
  rw [← U2_arg5 m c]; unfold V1 ops0; after_results <;> rfl
theorem V1_v6 (c : Dev nD) : V1 m c main_v6 = shapeCast S32x4x128 (m ((c : Thread nD τ).loc main_arg2)) shapeCasts_S1024x16_S32x4x128 := by
  rw [← U2_arg2 m c]; unfold V1 ops0; after_results <;> rfl
theorem V1_v9 (c : Dev nD) : V1 m c main_v9
    = shapeCast S32x4x128 (addi (m ((c : Thread nD τ).loc main_arg3)) (broadcastInDim S1024x16 ![] bcast_S_S1024x16 (constantI S_ 32 8192#32)))
        shapeCasts_S1024x16_S32x4x128 := by
  rw [← U2_arg3 m c]; unfold V1 ops0; after_results <;> rfl

theorem V3_v11 (c : Dev nD) : V3 m c main_v11 = shapeCast S16384x128 (gathO (X₀ m) (I₀ m) c) shapeCasts_S32x512x128_S16384x128 := by
  rw [← V2_v4_0]; unfold V3 ops1; after_results <;> rfl
theorem V3_v12 (c : Dev nD) : V3 m c main_v12 = shapeCast S16384x128 (gathP (X₀ m) (J₀ m) c) shapeCasts_S32x512x128_S16384x128 := by
  rw [← V2_v4_1]; unfold V3 ops1; after_results <;> rfl

theorem row_div (r : Fin 16384) : r.val / 16 < 1024 := by omega

/-- Row `16 b + l` is the table's row that entry `l` of list `b` names. -/
def rowsOf (X : FVec F S16384x128 .f32) (s : IVec S1024x16 32) : FVec F S16384x128 .f32 := fun x =>
  X (ix2 ⟨(s (ix2 ⟨(x 0).val / 16, row_div (x 0)⟩ ⟨(x 0).val % 16, Nat.mod_lt _ (by decide)⟩)).toNat % 16384, Nat.mod_lt _ (by decide)⟩ (x 1))

theorem listIx_at (a : Fin 32) (r : Fin 512) (k : Fin 128) :
    listIx (ix3 a r k) = ix3 a ⟨r.val / 128, Nat.div_lt_of_lt_mul r.isLt⟩ ⟨r.val % 128, Nat.mod_lt _ (by decide)⟩ := by
  funext i
  match i with
  | 0 => rfl
  | 1 => rfl
  | 2 => rfl
theorem tabIx_at (n : ℕ) (a : Fin 32) (r : Fin 512) (k : Fin 128) : tabIx n (ix3 a r k) = ix2 ⟨n % 16384, Nat.mod_lt _ (by decide)⟩ k := by
  funext i
  match i with
  | 0 => rfl
  | 1 => rfl

theorem gath_rows (X : FVec F S16384x128 .f32) (s : IVec S1024x16 32) :
    shapeCast S16384x128 (gath X (shapeCast S32x4x128 s shapeCasts_S1024x16_S32x4x128)) shapeCasts_S32x512x128_S16384x128 = rowsOf X s := by
  funext x
  idx_vars x
  pointwise [gath, rowsOf, listIx_at, tabIx_at]
  refine congrArg X (congrArg (fun n : Fin 16384 => ix2 n x1) (Fin.ext ?_))
  refine congrArg (fun j : S1024x16.Idx => (s j).toNat % 16384) ?_
  refine congrArg₂ ix2 (Fin.ext ?_) (Fin.ext ?_)
  · show x0.val / 512 * 32 + x0.val % 512 / 128 * 8 + x0.val % 512 % 128 / 16 = x0.val / 16
    omega
  · show x0.val % 512 % 128 % 16 = x0.val % 16
    omega

/-- The row numbers in the target half of the table. -/
abbrev shifted (t : IVec S1024x16 32) : IVec S1024x16 32 := addi t (broadcastInDim S1024x16 ![] bcast_S_S1024x16 (constantI S_ 32 8192#32))

theorem src_rows (c : Dev nD) : V3 m c main_v11 = rowsOf (table m c) (m ((c : Thread nD τ).loc main_arg2)) := by
  rw [V3_v11]
  unfold gathO
  rw [show X₀ m c = table m c from V1_v5 m c, show I₀ m c = _ from V1_v6 m c]
  exact gath_rows _ _
theorem tgt_rows (c : Dev nD) : V3 m c main_v12 = rowsOf (table m c) (shifted (m ((c : Thread nD τ).loc main_arg3))) := by
  rw [V3_v12]
  unfold gathP
  rw [show X₀ m c = table m c from V1_v5 m c, show J₀ m c = _ from V1_v9 m c]
  exact gath_rows _ _

/-! ## The arrays at the end -/

theorem V4_ne (c : Dev nD) (b : Ref sig .tc) (h2 : b ≠ main_v13_0) (h3 : b ≠ main_v13_1) : V4 m c b = V3 m c b := by
  unfold V4; rw [Function.update_of_ne (StableHlo.devRef_ne_of_ne h3), Function.update_of_ne (StableHlo.devRef_ne_of_ne h2)]
theorem V2_ne (c : Dev nD) (b : Ref sig .tc) (h2 : b ≠ main_v10_0) (h3 : b ≠ main_v10_1) : V2 m c b = V1 m c b := by
  unfold V2; rw [Function.update_of_ne (StableHlo.devRef_ne_of_ne h3), Function.update_of_ne (StableHlo.devRef_ne_of_ne h2)]

theorem V4_arg0 (c : Dev nD) : V4 m c main_arg0 = m ((c : Thread nD τ).loc main_arg0) := by
  rw [V4_ne m c main_arg0 (by decide) (by decide), ← V1_arg0 m c, ← V2_ne m c main_arg0 (by decide) (by decide)]; unfold V3 ops1; after_results <;> rfl
theorem V4_arg1 (c : Dev nD) : V4 m c main_arg1 = m ((c : Thread nD τ).loc main_arg1) := by
  rw [V4_ne m c main_arg1 (by decide) (by decide), ← V1_arg1 m c, ← V2_ne m c main_arg1 (by decide) (by decide)]; unfold V3 ops1; after_results <;> rfl
theorem V4_arg2 (c : Dev nD) : V4 m c main_arg2 = m ((c : Thread nD τ).loc main_arg2) := by
  rw [V4_ne m c main_arg2 (by decide) (by decide), ← V1_arg2 m c, ← V2_ne m c main_arg2 (by decide) (by decide)]; unfold V3 ops1; after_results <;> rfl
theorem V4_arg3 (c : Dev nD) : V4 m c main_arg3 = m ((c : Thread nD τ).loc main_arg3) := by
  rw [V4_ne m c main_arg3 (by decide) (by decide), ← V1_arg3 m c, ← V2_ne m c main_arg3 (by decide) (by decide)]; unfold V3 ops1; after_results <;> rfl
theorem V4_arg4 (c : Dev nD) : V4 m c main_arg4 = m ((c : Thread nD τ).loc main_arg4) := by
  rw [V4_ne m c main_arg4 (by decide) (by decide), ← V1_arg4 m c, ← V2_ne m c main_arg4 (by decide) (by decide)]; unfold V3 ops1; after_results <;> rfl
theorem V4_arg5 (c : Dev nD) : V4 m c main_arg5 = m ((c : Thread nD τ).loc main_arg5) := by
  rw [V4_ne m c main_arg5 (by decide) (by decide), ← V1_arg5 m c, ← V2_ne m c main_arg5 (by decide) (by decide)]; unfold V3 ops1; after_results <;> rfl

end Cert.Proof.I

end
-- ==== Proof.KernelRun.lean ====
/-
  The kernel's run where the lists name rows of the two halves: its arguments at the end.
-/
module

public import proofs.«01_k».proof.Proof.KernelArrays
public import proofs.«01_k».proof.Proof.Range

@[expose] public section

set_option maxRecDepth 16384

noncomputable section

namespace Cert.Proof.I

open Cert.KernelIdeal Cert.KernelIdeal.Gen

open Idealize.ShloMosaic Idealize.ShloMosaic.TcCoe Idealize.SL.Sem
open Idealize.ShloMosaic.Pipeline (ucRefs)

variable {F : FTy → Type} [FloatOps F] [Named F]
variable (m : (ℓ : Loc nD τ sig) → Buf (Elt F) ℓ) (ρ : Dev nD → PrngReg)

theorem shifted_toNat (t : IVec S1024x16 32) (ht : Bounded t) (j : S1024x16.Idx) : (shifted t j).toNat = 8192 + (t j).toNat := by
  show (t j + 8192#32).toNat = _
  rw [BitVec.toNat_add]
  have := ht j
  have h8 : (8192#32).toNat = 8192 := by decide
  omega

/-- The words that the tiles read name rows of the table. -/
theorem inRange (hb : ∀ c : Dev nD, Bounded (m ((c : Thread nD τ).loc main_arg2)) ∧ Bounded (m ((c : Thread nD τ).loc main_arg3))) : InRange (I₀ m) (J₀ m) := by
  intro d
  refine ⟨fun j => ?_, fun j => ?_⟩
  · rw [show I₀ m d = _ from V1_v6 m d]
    exact lt_trans ((hb d).1 _) (by decide)
  · rw [show J₀ m d = _ from V1_v9 m d]
    refine (lt_of_eq_of_lt (shifted_toNat _ (hb d).2 _) ?_ : (shifted (m ((d : Thread nD τ).loc main_arg3)) _).toNat < 16384)
    have := (hb d).2
    exact Nat.add_lt_add_left (this _) 8192

theorem run_frame [∀ e, Nonempty (Elt F e)] (hb : ∀ c : Dev nD, Bounded (m ((c : Thread nD τ).loc main_arg2)) ∧ Bounded (m ((c : Thread nD τ).loc main_arg3))) :
    θ_run (defs (F := F)) (threads (F := F)) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun r h => ⟨fun c => ⟨(h.1 c main_arg0 (by decide)).trans (V4_arg0 m c),
      (h.1 c main_arg1 (by decide)).trans (V4_arg1 m c),
      (h.1 c main_arg2 (by decide)).trans (V4_arg2 m c),
      (h.1 c main_arg3 (by decide)).trans (V4_arg3 m c),
      (h.1 c main_arg4 (by decide)).trans (V4_arg4 m c),
      (h.1 c main_arg5 (by decide)).trans (V4_arg5 m c)⟩, h.2⟩)
    (run_main m ρ (inRange m hb))

end Cert.Proof.I

end
-- ==== Proof.TailValue.lean ====
/-
  What the TensorCore pipeline leaves in its two results, as functions of the two arrays it reads.
-/
module

public import proofs.«01_k».proof.Proof.ScMain
public import Idealize.ShloMosaic.Lib.Pipeline.ValueKit

@[expose] public section

set_option maxRecDepth 16384

noncomputable section

namespace Cert.Proof.I

open Cert.KernelIdeal Cert.KernelIdeal.Gen

open Idealize.ShloMosaic Idealize.ShloMosaic.TcCoe Idealize.SL.Sem
open Idealize.ShloMosaic.SparseCore.Cfg (HIx)
open Idealize.ShloMosaic.Pipeline (Dat)

/-- Row `16 b + l` of an array of 16384 rows: the row of member `l` of list `b`. -/
abbrev memberRow (b : Fin 1024) (l : Fin 16) : Fin 16384 := ⟨b.val * 16 + l.val, by omega⟩

/-- The number 2 as the programs write it. -/
abbrev two : EReal := Ideal.ofBits FTy.f32 1073741824#32

/-- Twice the product of list `b`'s first row of `U` with its row `l` of `W`, over the first 64 columns, less the 65th
    columns of both. -/
def logitAt (U W : FVec Ideal S16384x128 .f32) (b : Fin 1024) (l : Fin 16) : EReal :=
  two * (∑ k : Fin 64, (U (ix2 (memberRow b 0) ⟨k.val, by omega⟩) * W (ix2 (memberRow b l) ⟨k.val, by omega⟩) : EReal))
    - U (ix2 (memberRow b 0) ⟨64, by decide⟩) - W (ix2 (memberRow b l) ⟨64, by decide⟩)

def logit (U W : FVec Ideal S16384x128 .f32) : FVec Ideal S1024x16 .f32 := fun x => logitAt U W (x 0) (x 1)

/-- Where the blocks of grid point `t` lie. -/
theorem idxs : ∀ t : Fin cfg3.N, win3_0.index t = ![t.val, 0] ∧ win3_1.index t = ![t.val, 0] ∧ win3_2.index t = ![t.val, 0] ∧ win3_3.index t = ![t.val, 0] :=
  (by decide +kernel : ∀ t : Fin grid3.N, _)

variable (V : (c : Dev nD) → (b : Ref sig .tc) → Buf (Elt Ideal) ((c : Thread nD τ).loc b))
variable (B : Dev nD → Set (SemLoc sig × HIx 1))

theorem point2 (c : Dev nD) (t : Fin cfg3.N) (y : S128x16.Idx) (b : Fin 1024) (l : Fin 16) (hb : b.val = t.val * 128 + (y 0).val) (hl : l.val = (y 1).val) :
    k3_pay5 (blk0 V c t) (blk1 V c t) y = logitAt (V c main_v11) (V c main_v12) b l := by
  pointwise [k3_pay5, k3_pay4, k3_pay3, k3_pay2, k3_pay1, logitAt]
  blk_point [blk0, blk1, idxs t]
  all_goals rw [hb]; try rw [hl]
  all_goals ring

theorem point3 (c : Dev nD) (t : Fin cfg3.N) (y : S128x16.Idx) (b : Fin 1024) (l : Fin 16) (hb : b.val = t.val * 128 + (y 0).val) (hl : l.val = (y 1).val) :
    k3_pay6 (blk0 V c t) (blk1 V c t) y = logitAt (V c main_v12) (V c main_v11) b l := by
  pointwise [k3_pay6, k3_pay4, k3_pay3, k3_pay2, k3_pay1, logitAt]
  blk_point [blk0, blk1, idxs t]
  all_goals rw [hb]; try rw [hl]
  all_goals ring

theorem tailOut2_eq (c : Dev nD) : tailOut2 V B c = logit (V c main_v11) (V c main_v12) := by
  refine (dat3 V B c).arrAt_eq_of_covers 2 _ (by decide +kernel) fun t _ y => ?_
  blk_simp
  exact point2 V c t y _ _ (by blk_simp [idxs t]) (by blk_simp [idxs t])

theorem tailOut3_eq (c : Dev nD) : tailOut3 V B c = logit (V c main_v12) (V c main_v11) := by
  refine (dat3 V B c).arrAt_eq_of_covers 3 _ (by decide +kernel) fun t _ y => ?_
  blk_simp
  exact point3 V c t y _ _ (by blk_simp [idxs t]) (by blk_simp [idxs t])

end Cert.Proof.I

end
-- ==== Proof.TowerMath.lean ====
/-
  The reflection of a row in six vectors, as either program forms it. One subtracts from the row its part along the
  vector; the other multiplies the row by the matrix that does so. On finite rows and finite vectors with an entry that
  is not zero, the two agree, and the result is finite.
-/
module

public import proofs.«01_k».proof.Proof.Range

@[expose] public section

noncomputable section

namespace Cert.Proof

open Idealize.ShloMosaic

/-- One row less its part along `v`: the product with `v`, times `v`, over the square of `v`'s length. -/
def reflK (h v : Fin 64 → EReal) (k : Fin 64) : EReal := h k - Ideal.div ((∑ j, h j * v j) * v k) (∑ j, v j * v j)

/-- The row times the matrix with `1` on its diagonal less `v j * v k` over the square of `v`'s length. -/
def reflR (h v : Fin 64 → EReal) (k : Fin 64) : EReal :=
  ∑ j, h j * ((if j = k then 1 else 0) - Ideal.div (v j * v k) (∑ i, v i * v i))

/-- A step repeated with six vectors. -/
def six (R : (Fin 64 → EReal) → (Fin 64 → EReal) → Fin 64 → EReal) (h : Fin 64 → EReal) (v : Fin 6 → Fin 64 → EReal) : Fin 64 → EReal :=
  R (R (R (R (R (R h (v 0)) (v 1)) (v 2)) (v 3)) (v 4)) (v 5)

/-- The least length divided by, as the programs write it. -/
abbrev leastNorm : EReal := Ideal.ofBits FTy.f32 0x2B8CBCCC#32

/-- A row over its length. -/
def unitRow (h : Fin 64 → EReal) (k : Fin 64) : EReal := Ideal.div (h k) (max (Ideal.sqrt (∑ j, h j * h j)) leastNorm)

theorem coe_total {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a s : ℝ) (hs : s ≠ 0) : Ideal.div (a : EReal) (s : EReal) = ((a / s : ℝ) : EReal) := by
  rw [Ideal.div, if_neg (by exact_mod_cast hs), ← EReal.coe_inv, ← EReal.coe_mul, div_eq_mul_inv]

theorem exists_reals (h : Fin 64 → EReal) (hh : ∀ j, Real' (h j)) : ∃ g : Fin 64 → ℝ, h = fun j => (g j : EReal) :=
  ⟨fun j => (h j).toReal, funext fun j => (EReal.coe_toReal (hh j).1 (hh j).2).symm⟩

/-- The two forms of one reflection agree, and leave a finite row. -/
theorem refl_eq (h v : Fin 64 → EReal) (hh : ∀ j, Real' (h j)) (hv : ∀ j, Real' (v j)) (hn : ∃ j, v j ≠ 0) :
    reflR h v = reflK h v ∧ ∀ k, Real' (reflK h v k) := by
  obtain ⟨g, rfl⟩ := exists_reals h hh
  obtain ⟨w, rfl⟩ := exists_reals v hv
  obtain ⟨i, hi⟩ := hn
  have hi : w i ≠ 0 := fun e => hi (by show (w i : EReal) = 0; rw [e]; rfl)
  have hs : (∑ j, w j * w j) ≠ 0 := by
    refine ne_of_gt (Finset.sum_pos' (fun j _ => mul_self_nonneg _) ⟨i, Finset.mem_univ _, ?_⟩)
    exact lt_of_le_of_ne (mul_self_nonneg _) (Ne.symm (mul_ne_zero hi hi))
  have es : (∑ j, ((w j : EReal) * (w j : EReal))) = ((∑ j, w j * w j : ℝ) : EReal) := by
    rw [coe_total]; exact Finset.sum_congr rfl fun j _ => (EReal.coe_mul _ _).symm
  have ep : (∑ j, ((g j : EReal) * (w j : EReal))) = ((∑ j, g j * w j : ℝ) : EReal) := by
    rw [coe_total]; exact Finset.sum_congr rfl fun j _ => (EReal.coe_mul _ _).symm
  have eK : ∀ k, reflK (fun j => (g j : EReal)) (fun j => (w j : EReal)) k = ((g k - (∑ j, g j * w j) * w k / ∑ j, w j * w j : ℝ) : EReal) := by
    intro k
    unfold reflK
    rw [es, ep, ← EReal.coe_mul, div_coe _ _ hs, EReal.coe_sub]
  refine ⟨funext fun k => ?_, fun k => ?_⟩
  · rw [eK]
    unfold reflR
    have et : ∀ j : Fin 64, (g j : EReal) * ((if j = k then 1 else 0) - Ideal.div ((w j : EReal) * (w k : EReal)) (∑ i, (w i : EReal) * (w i : EReal)))
        = ((g j * ((if j = k then 1 else 0) - w j * w k / ∑ i, w i * w i) : ℝ) : EReal) := by
      intro j
      rw [es, ← EReal.coe_mul, div_coe _ _ hs]
      split
      · rw [EReal.coe_mul, EReal.coe_sub, EReal.coe_one]
      · rw [EReal.coe_mul, EReal.coe_sub, EReal.coe_zero]
    rw [Finset.sum_congr rfl fun j _ => et j, ← coe_total]
    refine congrArg _ ?_
    simp only [mul_sub, Finset.sum_sub_distrib, mul_ite, mul_one, mul_zero, Finset.sum_ite_eq', Finset.mem_univ, if_true]
    rw [Finset.sum_mul, Finset.sum_div]
    exact congrArg _ (Finset.sum_congr rfl fun j _ => by ring)
  · rw [eK]
    exact ⟨EReal.coe_ne_top _, EReal.coe_ne_bot _⟩

end Cert.Proof

end
-- ==== Proof.NormValue.lean ====
/-
  What the first TensorCore pipeline leaves: each feature row reflected in the six vectors of its half, then divided by its length.
-/
module

public import proofs.«01_k».proof.Proof.TcRegion
public import proofs.«01_k».proof.Proof.TowerMath
public import Idealize.ShloMosaic.Lib.Pipeline.ValueKit

@[expose] public section

set_option maxRecDepth 16384

noncomputable section

namespace Cert.Proof.I

open Cert.KernelIdeal Cert.KernelIdeal.Gen

open Idealize.ShloMosaic Idealize.ShloMosaic.TcCoe Idealize.SL.Sem
open Idealize.ShloMosaic.SparseCore.Cfg (HIx)
open Idealize.ShloMosaic.Pipeline (Dat)

variable {F : FTy → Type} [FloatOps F] [Named F]

/-- One step on a block of rows. -/
def refl1 (X : FVec F S512x64 .f32) (w : Vec F S1x1x64 .f32) : FVec F S512x64 .f32 :=
  subf X (divf (matmul dot_S512x1_S1x64_S512x64_1_0_0_1_n_n none
      (matmul dot_S512x64_S1x64_S512x1_1_1_0_0_n_n none X (shapeCast S1x64 w shapeCasts_S1x1x64_S1x64) (constant S512x1 .f32 0x00000000#32))
      (shapeCast S1x64 w shapeCasts_S1x1x64_S1x64) (constant S512x64 .f32 0x00000000#32))
    (broadcast S512x64 (extractAt ![0, 0, 0] (shapeCast S1x1x1 (multiReduction .add [1, 2] S1 (shapeCast S1x1x64
      (mulf (shapeCast S1x64 w shapeCasts_S1x1x64_S1x64) (shapeCast S1x64 w shapeCasts_S1x1x64_S1x64)) shapeCasts_S1x64_S1x1x64)
      0x00000000#32 reduces_S1x1x64_S1 (.inl rfl) rfl) shapeCasts_S1_S1x1x1) inpos_S1x1x1_p0_0_0)))

theorem half1_eq (X : Vec F S512x64 .f32) (u v w : Vec F S1x1x64 .f32) :
    k0_pay2 X u v w = refl1 (refl1 (refl1 (shapeCast S512x64 X shapeCasts_S512x64_S512x64) u) v) w := rfl
theorem half2_eq (X : Vec F S512x64 .f32) (u v w : Vec F S1x1x64 .f32) : k0_pay3 X u v w = refl1 (refl1 (refl1 X u) v) w := rfl

theorem refl1_at (X : FVec Ideal S512x64 .f32) (w : Vec Ideal S1x1x64 .f32) (r : Fin 512) (k : Fin 64) :
    refl1 X w (ix2 r k) = reflK (fun j => X (ix2 r j)) (fun j => w (ix3 0 0 j)) k := by
  pointwise [refl1, reflK]
  simp only [Fin.sum_univ_one, Fin.isValue]

theorem vecAt_at (v : Vec Ideal S1x6x64 .f32) (i : Fin 6) (h) (j : Fin 64) : vecAt v i.val h (ix3 0 0 j) = v (ix3 0 i j) := by
  unfold vecAt VecWindow.window
  refine congrArg v (funext fun a => ?_)
  match a with
  | 0 => rfl
  | 1 => exact Fin.ext (by show i.val + 1 * 0 = i.val; omega)
  | 2 => exact Fin.ext (by show 0 + 1 * j.val = j.val; omega)

theorem normBlk_at (X : Vec Ideal S512x64 .f32) (v : Vec Ideal S1x6x64 .f32) (r : Fin 512) (k : Fin 64) :
    normBlk X v (ix2 r k) = unitRow (six reflK (fun j => X (ix2 r j)) (fun i j => v (ix3 0 i j))) k := by
  unfold normBlk half1
  rw [half1_eq, half2_eq]
  pointwise [k0_pay1, k0_pay4, k0_pay5, unitRow, six, half2_eq, refl1_at]
  simp only [show ∀ h j, vecAt v 0 h (ix3 0 0 j) = v (ix3 0 0 j) from vecAt_at v 0, show ∀ h j, vecAt v 1 h (ix3 0 0 j) = v (ix3 0 1 j) from vecAt_at v 1,
    show ∀ h j, vecAt v 2 h (ix3 0 0 j) = v (ix3 0 2 j) from vecAt_at v 2, show ∀ h j, vecAt v 3 h (ix3 0 0 j) = v (ix3 0 3 j) from vecAt_at v 3,
    show ∀ h j, vecAt v 4 h (ix3 0 0 j) = v (ix3 0 4 j) from vecAt_at v 4, show ∀ h j, vecAt v 5 h (ix3 0 0 j) = v (ix3 0 5 j) from vecAt_at v 5]

theorem half_lt (r : Fin 16384) : r.val / 8192 < 2 := by omega

/-- The normalised rows from the features `X` and the vectors `v` of both halves. -/
def unitRows (X : FVec Ideal S16384x64 .f32) (v : FVec Ideal S2x6x64 .f32) : FVec Ideal S16384x64 .f32 := fun x =>
  unitRow (six reflK (fun j => X (ix2 (x 0) j)) (fun i j => v (ix3 ⟨(x 0).val / 8192, half_lt (x 0)⟩ i j))) (x 1)

/-- Where the blocks of grid point `t` lie. -/
theorem idxs0 : ∀ t : Fin cfg0.N, win0_0.index t = ![t.val, 0] ∧ win0_1.index t = ![t.val / 16, 0, 0] ∧ win0_2.index t = ![t.val, 0] :=
  (by decide +kernel : ∀ t : Fin grid0.N, _)

variable (V : (c : Dev nD) → (b : Ref sig .tc) → Buf (Elt Ideal) ((c : Thread nD τ).loc b))
variable (B : Dev nD → Set (SemLoc sig × HIx 1))

theorem nrm0_at (c : Dev nD) (t : Fin cfg0.N) (y : Fin 512) (j : Fin 64) (r : Fin 16384) (hr : r.val = t.val * 512 + y.val) :
    nrm0 V c t (ix2 y j) = V c main_v0 (ix2 r j) := by
  blk_point [nrm0, idxs0 t]
  all_goals rw [hr]
theorem nrm1_at (c : Dev nD) (t : Fin cfg0.N) (i : Fin 6) (j : Fin 64) (a : Fin 2) (ha : a.val = t.val / 16) :
    nrm1 V c t (ix3 0 i j) = V c main_v3 (ix3 a i j) := by
  blk_point [nrm1, idxs0 t]
  all_goals rw [ha]

theorem norm_point (c : Dev nD) (t : Fin cfg0.N) (y : S512x64.Idx) (r : Fin 16384) (k : Fin 64) (hr : r.val = t.val * 512 + (y 0).val) (hk : k = y 1) :
    normBlk (nrm0 V c t) (nrm1 V c t) y = unitRow (six reflK (fun j => V c main_v0 (ix2 r j)) (fun i j => V c main_v3 (ix3 ⟨r.val / 8192, half_lt r⟩ i j))) k := by
  subst hk
  idx_vars y
  rw [normBlk_at]
  refine congrArg₂ (fun h v => unitRow (six reflK h v) _) (funext fun j => ?_) (funext fun i => funext fun j => ?_)
  · exact nrm0_at V c t _ j r hr
  · refine nrm1_at V c t i j _ ?_
    have := y0.isLt
    show r.val / 8192 = t.val / 16
    rw [hr]
    show (t.val * 512 + y0.val) / 8192 = t.val / 16
    omega

theorem normOut_eq (c : Dev nD) : normOut V B c = unitRows (V c main_v0) (V c main_v3) := by
  refine (dat0 V B c).arrAt_eq_of_covers 2 _ (by decide +kernel) fun t _ y => ?_
  blk_simp
  exact norm_point V c t y _ _ (by blk_simp [idxs0 t]) (Fin.ext (by blk_simp [idxs0 t]))

end Cert.Proof.I

end
-- ==== Proof.TopMath.lean ====
/-
  Ten running maxima as a count. A list `t` whose entry `r` is at least `x` exactly when more than `r` entries of the
  data are holds the greatest of the data in order; putting a value in adds one to the count, merging two lists adds
  their counts, and a sort of the data has the same entries.
-/
module

public import Idealize.ShloMosaic.Lib.SortFacts
public import Idealize.ShloMosaic.PureOps.Ideal
public import Mathlib.Algebra.BigOperators.Fin
public import Mathlib.Data.EReal.Basic

@[expose] public section

noncomputable section

namespace Cert.Proof.Top

open Idealize.ShloMosaic

/-- The first ten entries of `t` are the greatest of data with `N x` entries that are at least `x`, then `⊥`. -/
def Greatest (t : ℕ → EReal) (N : EReal → ℕ) : Prop := ∀ r < 10, ∀ x, ⊥ < x → (x ≤ t r ↔ r < N x)

/-- What is handed on to place `r` when `y` is put into `t`. -/
def carryS (t : ℕ → EReal) (y : EReal) (r : ℕ) : EReal := Nat.rec y (fun n z => min (t n) z) r

theorem Greatest.least : Greatest (fun _ => ⊥) fun _ => 0 := fun r _ x hx =>
  ⟨fun h => absurd (lt_of_lt_of_le hx h) (lt_irrefl _), fun h => absurd h (Nat.not_lt_zero r)⟩

theorem Greatest.le_carry {t : ℕ → EReal} {N : EReal → ℕ} (h : Greatest t N) (y x : EReal) (hx : ⊥ < x) :
    ∀ r, r ≤ 10 → (x ≤ carryS t y r ↔ x ≤ y ∧ r ≤ N x)
  | 0, _ => ⟨fun e => ⟨e, Nat.zero_le _⟩, fun e => e.1⟩
  | r + 1, hr => by
    show x ≤ min (t r) (carryS t y r) ↔ _
    rw [le_min_iff, h r hr x hx, Greatest.le_carry h y x hx r (by omega)]
    constructor
    · rintro ⟨a, b, c⟩; exact ⟨b, a⟩
    · rintro ⟨a, b⟩; exact ⟨b, a, by omega⟩

theorem Greatest.insert {t : ℕ → EReal} {N : EReal → ℕ} (h : Greatest t N) (y : EReal) :
    Greatest (fun r => max (t r) (carryS t y r)) fun x => N x + if x ≤ y then 1 else 0 := by
  intro r hr x hx
  show x ≤ max (t r) (carryS t y r) ↔ _
  rw [le_max_iff, h r hr x hx, h.le_carry y x hx r (by omega)]
  show _ ↔ r < N x + if x ≤ y then 1 else 0
  split
  · next e =>
    constructor
    · rintro (q | q) <;> omega
    · intro q
      by_cases h' : r < N x
      · exact .inl h'
      · exact .inr ⟨e, by omega⟩
  · next e =>
    constructor
    · rintro (q | q)
      · omega
      · exact absurd q.1 e
    · intro q; exact .inl (by omega)

/-- Entry `k` of the merge of `a` and `b`, from its first `n` pairs. -/
def mergeS (a b : ℕ → EReal) (k n : ℕ) : EReal := Nat.rec (max (a k) (b k)) (fun i m => max m (min (a i) (b (k - 1 - i)))) n

theorem le_mergeS (a b : ℕ → EReal) (k : ℕ) (x : EReal) : ∀ n, x ≤ mergeS a b k n ↔ x ≤ a k ∨ x ≤ b k ∨ ∃ i < n, x ≤ a i ∧ x ≤ b (k - 1 - i)
  | 0 => by
    show x ≤ max (a k) (b k) ↔ _
    rw [le_max_iff]
    constructor
    · rintro (h | h); exacts [.inl h, .inr (.inl h)]
    · rintro (h | h | ⟨i, hi, -⟩); exacts [.inl h, .inr h, absurd hi (Nat.not_lt_zero i)]
  | n + 1 => by
    show x ≤ max (mergeS a b k n) (min (a n) (b (k - 1 - n))) ↔ _
    rw [le_max_iff, le_mergeS a b k x n, le_min_iff]
    constructor
    · rintro ((h | h | ⟨i, hi, h⟩) | h)
      exacts [.inl h, .inr (.inl h), .inr (.inr ⟨i, by omega, h⟩), .inr (.inr ⟨n, by omega, h⟩)]
    · rintro (h | h | ⟨i, hi, h⟩)
      · exact .inl (.inl h)
      · exact .inl (.inr (.inl h))
      · rcases Nat.lt_succ_iff_lt_or_eq.mp hi with hi | rfl
        · exact .inl (.inr (.inr ⟨i, hi, h⟩))
        · exact .inr h

theorem Greatest.merge {a b : ℕ → EReal} {N M : EReal → ℕ} (ha : Greatest a N) (hb : Greatest b M) :
    Greatest (fun k => mergeS a b k k) fun x => N x + M x := by
  intro k hk x hx
  show x ≤ mergeS a b k k ↔ _
  rw [le_mergeS, ha k hk x hx, hb k hk x hx]
  show _ ↔ k < N x + M x
  constructor
  · rintro (h | h | ⟨i, hi, h1, h2⟩)
    · omega
    · omega
    · rw [ha i (by omega) x hx] at h1; rw [hb _ (by omega) x hx] at h2; omega
  · intro h
    by_cases h1 : k < N x; · exact .inl h1
    by_cases h2 : k < M x; · exact .inr (.inl h2)
    refine .inr (.inr ⟨N x - 1, by omega, ?_, ?_⟩)
    · rw [ha _ (by omega) x hx]; omega
    · rw [hb _ (by omega) x hx]; omega

theorem Greatest.unique {t u : ℕ → EReal} {N : EReal → ℕ} (ht : Greatest t N) (hu : Greatest u N) (r : ℕ) (hr : r < 10) : t r = u r := by
  refine le_antisymm ?_ ?_
  · rcases eq_or_lt_of_le (bot_le : ⊥ ≤ t r) with h | h
    · rw [← h]; exact bot_le
    · exact (hu r hr _ h).mpr ((ht r hr _ h).mp le_rfl)
  · rcases eq_or_lt_of_le (bot_le : ⊥ ≤ u r) with h | h
    · rw [← h]; exact bot_le
    · exact (ht r hr _ h).mpr ((hu r hr _ h).mp le_rfl)

theorem Greatest.congr {t : ℕ → EReal} {N M : EReal → ℕ} (ht : Greatest t N) (h : ∀ x, N x = M x) : Greatest t M := (funext h : N = M) ▸ ht

/-! ## Counts of a row in lanes -/

/-- How many of `f 0 … f (n - 1)` are at least `x`. -/
def cnt (f : ℕ → EReal) (n : ℕ) (x : EReal) : ℕ := ∑ j ∈ Finset.range n, if x ≤ f j then 1 else 0

theorem cnt_succ (f : ℕ → EReal) (n : ℕ) (x : EReal) : cnt f (n + 1) x = cnt f n x + if x ≤ f n then 1 else 0 := Finset.sum_range_succ _ n

/-- The sum of `g` over the places `l, l + w, …`, `m` of them. -/
def lane (g : ℕ → ℕ) (w m l : ℕ) : ℕ := ∑ i ∈ Finset.range m, g (l + w * i)

theorem lane_halve (g : ℕ → ℕ) (w l : ℕ) : ∀ m, lane g (2 * w) m l + lane g (2 * w) m (l + w) = lane g w (2 * m) l
  | 0 => rfl
  | m + 1 => by
    unfold lane
    rw [Finset.sum_range_succ, Finset.sum_range_succ, show 2 * (m + 1) = 2 * m + 1 + 1 by omega, Finset.sum_range_succ, Finset.sum_range_succ]
    have ih := lane_halve g w l m
    unfold lane at ih
    rw [← ih, show l + 2 * w * m = l + w * (2 * m) by ring, show l + w + 2 * w * m = l + w * (2 * m + 1) by ring]
    omega

theorem sum_blocks (g : ℕ → ℕ) (m : ℕ) : ∀ n, ∑ j ∈ Finset.range (m * n), g j = ∑ c ∈ Finset.range n, ∑ l ∈ Finset.range m, g (m * c + l)
  | 0 => by simp
  | n + 1 => by rw [Nat.mul_succ, Finset.sum_range_add, sum_blocks g m n, Finset.sum_range_succ]

/-- The counts of the lanes of a row of `m * n` entries add up to the row's. -/
theorem lane_cnt (f : ℕ → EReal) (m n : ℕ) (x : EReal) :
    lane (fun l => cnt (fun c => f (m * c + l)) n x) 1 m 0 = cnt f (m * n) x := by
  unfold lane cnt
  rw [sum_blocks, Finset.sum_comm]
  refine Finset.sum_congr rfl fun c _ => Finset.sum_congr rfl fun l _ => ?_
  rw [Nat.zero_add, Nat.one_mul]

/-! ## The sorted row -/

/-- A row sorted by the reference's comparison holds its greatest entries in order. -/
theorem greatest_sorted {n : ℕ} (hn : 10 ≤ n) (f : Fin n → EReal) (F : ℕ → EReal) (hF : ∀ j : Fin n, F j.val = f j) (t : ℕ → EReal)
    (ht : ∀ (r : ℕ) (hr : r < 10), t r = f (sortedFrom (fun k k' => decide (f k' < f k)) ⟨r, by omega⟩)) :
    Greatest t (cnt F n) := by
  intro r hr x hx
  rw [ht r hr]
  set B : Fin n → Fin n → Bool := fun k k' => decide (f k' < f k) with hB
  have mono : ∀ i j : Fin n, i ≤ j → f (sortedFrom B j) ≤ f (sortedFrom B i) := by
    intro i j hij
    rcases eq_or_lt_of_le hij with rfl | h
    · exact le_rfl
    · have := sortedFrom_noInversion B B (fun a b h => by simp only [hB, decide_eq_true_eq, decide_eq_false_iff_not, not_lt] at h ⊢; exact h.le) (fun a b h => h)
        (fun a b c h h' => by simp only [hB, decide_eq_false_iff_not, not_lt] at h h' ⊢; exact h.trans h') i j h
      simp only [hB, decide_eq_false_iff_not, not_lt] at this
      exact this
  have count : cnt F n x = (Finset.univ.filter fun i : Fin n => x ≤ f (sortedFrom B i)).card := by
    have e : cnt F n x = ∑ j : Fin n, if x ≤ f j then 1 else 0 := by
      unfold cnt
      rw [Finset.sum_range]
      exact Finset.sum_congr rfl fun j _ => by rw [hF]
    rw [e, Finset.card_filter]
    exact ((Equiv.ofBijective _ ⟨sortedFrom_injective B, sortedFrom_surjective B⟩).sum_comp (fun j => if x ≤ f j then 1 else 0)).symm
  rw [count]
  constructor
  · intro h
    refine lt_of_lt_of_le (show r < (Finset.univ.filter fun i : Fin n => i.val ≤ r).card from ?_) (Finset.card_le_card fun i hi => ?_)
    · have : (Finset.univ.filter fun i : Fin n => i.val ≤ r) = Finset.Iic (⟨r, by omega⟩ : Fin n) := by
        ext i; simp [Fin.le_def]
      rw [this, Fin.card_Iic]
      exact Nat.lt_succ_self r
    · rw [Finset.mem_filter] at hi ⊢
      exact ⟨hi.1, h.trans (mono i _ hi.2)⟩
  · intro h
    by_contra hc
    refine absurd h (not_lt.mpr ?_)
    have : (Finset.univ.filter fun i : Fin n => x ≤ f (sortedFrom B i)) ⊆ Finset.Iio (⟨r, by omega⟩ : Fin n) := by
      intro i hi
      rw [Finset.mem_filter] at hi
      rw [Finset.mem_Iio]
      by_contra hle
      exact hc (hi.2.trans (mono _ i (not_lt.mp hle)))
    exact (Finset.card_le_card this).trans (by rw [Fin.card_Iio])

end Cert.Proof.Top

end
-- ==== Proof.TopLists.lean ====
/-
  The second pipeline's payload in exact arithmetic: of each row of products the lists kept lane by lane and merged are the
  ten greatest, so the payload's 65th column is a tenth of their sum.
-/
module

public import proofs.«01_k».proof.Proof.TopSpec
public import proofs.«01_k».proof.Proof.TopMath
public import Idealize.ShloMosaic.Lib.Pipeline.ValueKit

@[expose] public section

set_option maxRecDepth 16384

noncomputable section

namespace Cert.Proof.I

open Cert.KernelIdeal Cert.KernelIdeal.Gen

open Idealize.ShloMosaic
open Cert.Proof.Top

theorem carry_at {s : Shape} (t : Nat → FVec Ideal s .bf16) (x : FVec Ideal s .bf16) (j : s.Idx) :
    ∀ r, carry t x r j = carryS (fun n => t n j) (x j) r
  | 0 => rfl
  | r + 1 => congrArg (min (t r j)) (carry_at t x j r)

theorem insert_at {s : Shape} (t : Nat → FVec Ideal s .bf16) (x : FVec Ideal s .bf16) (r : ℕ) (j : s.Idx) :
    insert t x r j = max (t r j) (carryS (fun n => t n j) (x j) r) := congrArg (max (t r j)) (carry_at t x j r)

theorem mergeTo_at {s : Shape} (a b : Nat → FVec Ideal s .bf16) (k : ℕ) (j : s.Idx) :
    ∀ n, mergeTo a b k n j = mergeS (fun i => a i j) (fun i => b i j) k n
  | 0 => rfl
  | n + 1 => congrArg (fun z => max z (min (a n j) (b (k - 1 - n) j))) (mergeTo_at a b k j n)

/-- Row `R` of the products as a sequence. -/
def rowF (s : FVec Ideal S256x8192 .bf16) (R : Fin 256) (c : ℕ) : EReal := if h : c < 8192 then s (ix2 R ⟨c, h⟩) else ⊥

/-- The row of the products that row `r` of block `rb` is. -/
abbrev blockRow (rb : ℕ) (hr : rb < 4) (r : Fin 64) : Fin 256 := ⟨rb * 64 + r.val, by omega⟩

theorem lists_at (s : FVec Ideal S256x8192 .bf16) (rb : ℕ) (hr : rb < 4) (r : Fin 64) (l : Fin 128) : ∀ (n : ℕ) (h : n ≤ 64),
    Greatest (fun i => lists s rb hr n h i (ix2 r l)) (cnt (fun c => rowF s (blockRow rb hr r) (128 * c + l.val)) n)
  | 0, _ => Greatest.least
  | n + 1, h => by
    have e : (fun i => lists s rb hr (n + 1) h i (ix2 r l))
        = fun i => max (lists s rb hr n (Nat.le_of_succ_le h) i (ix2 r l))
            (carryS (fun i => lists s rb hr n (Nat.le_of_succ_le h) i (ix2 r l)) (rowF s (blockRow rb hr r) (128 * n + l.val)) i) := by
      funext i
      refine (insert_at _ _ i _).trans ?_
      refine congrArg (fun y => max _ (carryS (fun i => lists s rb hr n (Nat.le_of_succ_le h) i (ix2 r l)) y i)) ?_
      have hb : 128 * n + l.val < 8192 := by omega
      unfold rowF
      rw [dif_pos hb]
      refine extractStridedSlice_apply _ s _ _ _ fun a => ?_
      match a with
      | ⟨0, _⟩ => rfl
      | ⟨1, _⟩ => exact congrArg (· + l.val) (Nat.mul_comm 128 n)
    rw [e]
    exact ((lists_at s rb hr r l n (Nat.le_of_succ_le h)).insert _).congr fun x => (cnt_succ _ n x).symm

/-- The lists `x`, `w` lanes of `m` places each, hold the greatest of the entries counted by `g`. -/
def Hold {w : ℕ} (g : Fin 64 → EReal → ℕ → ℕ) (m : ℕ) (x : Nat → FVec Ideal ⟨2, ![64, w]⟩ .bf16) : Prop :=
  ∀ (r : Fin 64) (l : Fin w), Greatest (fun i => x i (ix2 r l)) fun y => lane (g r y) w m l.val

theorem Hold.halve {w m : ℕ} {g : Fin 64 → EReal → ℕ → ℕ} (h : (⟨2, ![64, 2 * w]⟩ : Shape).Slices ![0, 0] ⟨2, ![64, w]⟩)
    (h' : (⟨2, ![64, 2 * w]⟩ : Shape).Slices ![0, w] ⟨2, ![64, w]⟩) {x : Nat → FVec Ideal ⟨2, ![64, 2 * w]⟩ .bf16} (H : Hold g m x) :
    Hold g (2 * m) (halve ⟨2, ![64, w]⟩ ![0, 0] ![0, w] h h' x) := fun r l => by
  have e : (fun i => Cert.Proof.I.halve ⟨2, ![64, w]⟩ ![0, 0] ![0, w] h h' x i (ix2 r l))
      = fun k => mergeS (fun i => x i (ix2 r ⟨l.val, by omega⟩)) (fun i => x i (ix2 r ⟨l.val + w, by omega⟩)) k k := by
    funext k
    refine (mergeTo_at _ _ k _ k).trans ?_
    have e1 : (fun i => extractStridedSlice ⟨2, ![64, w]⟩ ![0, 0] (x i) h (ix2 r l)) = fun i => x i (ix2 r ⟨l.val, by omega⟩) :=
      funext fun i => extractStridedSlice_apply _ (x i) _ _ _ fun a => by
        match a with
        | ⟨0, _⟩ => exact (Nat.zero_add _).symm
        | ⟨1, _⟩ => exact (Nat.zero_add _).symm
    have e2 : (fun i => extractStridedSlice ⟨2, ![64, w]⟩ ![0, w] (x i) h' (ix2 r l)) = fun i => x i (ix2 r ⟨l.val + w, by omega⟩) :=
      funext fun i => extractStridedSlice_apply _ (x i) _ _ _ fun a => by
        match a with
        | ⟨0, _⟩ => exact (Nat.zero_add _).symm
        | ⟨1, _⟩ => exact Nat.add_comm _ _
    rw [e1, e2]
  rw [e]
  exact ((H r ⟨l.val, by omega⟩).merge (H r ⟨l.val + w, by omega⟩)).congr fun y => lane_halve (g r y) w l.val m

theorem best_at (s : FVec Ideal S256x8192 .bf16) (rb : ℕ) (hr : rb < 4) (r : Fin 64) :
    Greatest (fun i => best s rb hr i (ix2 r 0)) (cnt (rowF s (blockRow rb hr r)) 8192) := by
  have h0 : Hold (w := 128) (fun r y l => cnt (fun c => rowF s (blockRow rb hr r) (128 * c + l)) 64 y) 1 (lists s rb hr 64 (Nat.le_refl 64)) :=
    fun r l => (lists_at s rb hr r l 64 (Nat.le_refl 64)).congr fun y => by
      unfold lane
      rw [Finset.sum_range_one, Nat.mul_zero, Nat.add_zero]
  have h1 := Hold.halve (w := 64) slices_S64x128_o0_0_S64x64 slices_S64x128_o0_64_S64x64 h0
  have h2 := Hold.halve (w := 32) slices_S64x64_o0_0_S64x32 slices_S64x64_o0_32_S64x32 h1
  have h3 := Hold.halve (w := 16) slices_S64x32_o0_0_S64x16 slices_S64x32_o0_16_S64x16 h2
  have h4 := Hold.halve (w := 8) slices_S64x16_o0_0_S64x8 slices_S64x16_o0_8_S64x8 h3
  have h5 := Hold.halve (w := 4) slices_S64x8_o0_0_S64x4 slices_S64x8_o0_4_S64x4 h4
  have h6 := Hold.halve (w := 2) slices_S64x4_o0_0_S64x2 slices_S64x4_o0_2_S64x2 h5
  have h7 := Hold.halve (w := 1) slices_S64x2_o0_0_S64x1 slices_S64x2_o0_1_S64x1 h6
  exact (h7 r 0).congr fun y => lane_cnt (rowF s (blockRow rb hr r)) 128 64 y

theorem totalTo_at (x : Nat → FVec Ideal S64x1 .bf16) (j : S64x1.Idx) : ∀ n, totalTo x n j = ∑ i ∈ Finset.range (n + 1), (x i j : EReal)
  | 0 => by rw [Finset.sum_range_one]; rfl
  | n + 1 => by rw [Finset.sum_range_succ, ← totalTo_at x j n]; rfl

/-- Row `R`'s total is the sum of any sequence of its ten greatest. -/
theorem total_at (s : FVec Ideal S256x8192 .bf16) (rb : ℕ) (hr : rb < 4) (r : Fin 64) (u : ℕ → EReal)
    (hu : Greatest u (cnt (rowF s (blockRow rb hr r)) 8192)) : total s rb hr (ix2 r 0) = ∑ i ∈ Finset.range 10, u i :=
  (totalTo_at _ _ 9).trans (Finset.sum_congr rfl fun i hi => (best_at s rb hr r).unique hu i (Finset.mem_range.mp hi))

theorem topRows_row (s : FVec Ideal S256x8192 .bf16) (x : FVec Ideal S256x64 .f32) (R : Fin 256) (k : Fin 64) :
    topRows s x (ix2 R ⟨k.val, by omega⟩) = x (ix2 R k) := by
  pointwise [topRows]

theorem tenth : (Named.named κ "tenth" 0x3DCCCCCD#32 : Ideal .f32) = (((10 : ℝ)⁻¹ : ℝ) : EReal) := rfl

theorem topRows_total (s : FVec Ideal S256x8192 .bf16) (x : FVec Ideal S256x64 .f32) (rb : ℕ) (hr : rb < 4) (r : Fin 64) :
    topRows s x (ix2 (blockRow rb hr r) ⟨64, by decide⟩) = (total s rb hr (ix2 r 0) : EReal) * ((10⁻¹ : ℝ) : EReal) := by
  rcases (show rb = 0 ∨ rb = 1 ∨ rb = 2 ∨ rb = 3 by omega) with rfl | rfl | rfl | rfl
  all_goals pointwise [topRows]
  all_goals rw [tenth]
  · have e : (⟨128 + r.val - 64 - 64, by omega⟩ : Fin 64) = r := Fin.ext (by show 128 + r.val - 64 - 64 = r.val; omega)
    rw [dif_neg (by omega), dif_neg (by omega), dif_pos (by omega), e]
  · have e : (⟨192 + r.val - 64 - 64 - 64, by omega⟩ : Fin 64) = r := Fin.ext (by show 192 + r.val - 64 - 64 - 64 = r.val; omega)
    rw [dif_neg (by omega), dif_neg (by omega), dif_neg (by omega), e]

end Cert.Proof.I

end
-- ==== Proof.TopValue.lean ====
/-
  What the second TensorCore pipeline leaves: each normalised row, and after it the mean of the ten greatest products
  with the rows of the other half.
-/
module

public import proofs.«01_k».proof.Proof.TcRegion
public import proofs.«01_k».proof.Proof.TopLists
public import Idealize.ShloMosaic.Lib.Pipeline.ValueKit

@[expose] public section

set_option maxRecDepth 16384

noncomputable section

namespace Cert.Proof.I

open Cert.KernelIdeal Cert.KernelIdeal.Gen

open Idealize.ShloMosaic Idealize.ShloMosaic.TcCoe Idealize.SL.Sem
open Cert.Proof.Top
open Idealize.ShloMosaic.SparseCore.Cfg (HIx)
open Idealize.ShloMosaic.Pipeline (Dat)

theorem block_lt (r : Fin 16384) (y : Fin 256) : r.val / 256 * 256 + y.val < 16384 := by omega
theorem other_lt (r : Fin 16384) (c : Fin 8192) : (1 - r.val / 8192) * 8192 + c.val < 16384 := by omega

/-- The block of 256 rows that row `r` is in, and the rows of the half it is not in. -/
def blockOf (U : FVec Ideal S16384x64 .f32) (r : Fin 16384) : FVec Ideal S256x64 .f32 := fun y => U (ix2 ⟨r.val / 256 * 256 + (y 0).val, block_lt r (y 0)⟩ (y 1))
def otherOf (U : FVec Ideal S16384x64 .f32) (r : Fin 16384) : FVec Ideal S8192x64 .f32 := fun y => U (ix2 ⟨(1 - r.val / 8192) * 8192 + (y 0).val, other_lt r (y 0)⟩ (y 1))

/-- The table from the normalised rows. -/
def tableOf (U : FVec Ideal S16384x64 .f32) : FVec Ideal S16384x128 .f32 := fun x =>
  topBlk (blockOf U (x 0)) (otherOf U (x 0)) (ix2 ⟨(x 0).val % 256, Nat.mod_lt _ (by decide)⟩ (x 1))

/-- Where the blocks of grid point `t` lie. -/
theorem idxs1 : ∀ t : Fin cfg1.N, win1_0.index t = ![t.val, 0] ∧ win1_1.index t = ![1 - t.val / 32, 0] ∧ win1_2.index t = ![t.val, 0] :=
  (by decide +kernel : ∀ t : Fin grid1.N, _)

variable (V : (c : Dev nD) → (b : Ref sig .tc) → Buf (Elt Ideal) ((c : Thread nD τ).loc b))
variable (B : Dev nD → Set (SemLoc sig × HIx 1))

theorem top0_at (c : Dev nD) (t : Fin cfg1.N) (y : Fin 256) (j : Fin 64) (r : Fin 16384) (hr : r.val = t.val * 256 + y.val) :
    top0 V c t (ix2 y j) = V c main_v4 (ix2 r j) := by
  blk_point [top0, idxs1 t]
  all_goals rw [hr]
theorem top1_at (c : Dev nD) (t : Fin cfg1.N) (y : Fin 8192) (j : Fin 64) (r : Fin 16384) (hr : r.val = (1 - t.val / 32) * 8192 + y.val) :
    top1 V c t (ix2 y j) = V c main_v4 (ix2 r j) := by
  blk_point [top1, idxs1 t]
  all_goals rw [hr]

theorem top_point (c : Dev nD) (t : Fin cfg1.N) (y : S256x128.Idx) (r : Fin 16384) (k : Fin 128) (hr : r.val = t.val * 256 + (y 0).val) (hk : k = y 1) :
    topBlk (top0 V c t) (top1 V c t) y = tableOf (V c main_v4) (ix2 r k) := by
  subst hk
  idx_vars y
  have h0 : r.val = t.val * 256 + y0.val := hr
  have hy := y0.isLt
  unfold tableOf
  refine congr (congrArg₂ topBlk (funext fun z => ?_) (funext fun z => ?_)) (congrArg₂ ix2 (Fin.ext ?_) rfl)
  · idx_vars z
    exact top0_at V c t _ _ _ (by show r.val / 256 * 256 + z0.val = t.val * 256 + z0.val; omega)
  · idx_vars z
    exact top1_at V c t _ _ _ (by show (1 - r.val / 8192) * 8192 + z0.val = (1 - t.val / 32) * 8192 + z0.val; omega)
  · show y0.val = r.val % 256
    omega

theorem topOut_eq (c : Dev nD) : topOut V B c = tableOf (V c main_v4) := by
  refine (dat1 V B c).arrAt_eq_of_covers 2 _ (by decide +kernel) fun t _ y => ?_
  blk_simp
  have e : ∀ x : S16384x128.Idx, tableOf (V c main_v4) x = tableOf (V c main_v4) (ix2 (x 0) (x 1)) := fun x => rfl
  rw [e]
  exact top_point V c t y _ _ (by blk_simp [idxs1 t]) (Fin.ext (by blk_simp [idxs1 t]))

/-! ## The table's columns -/

variable (U : FVec Ideal S16384x64 .f32)

/-- Row `r`'s products with the rows of the other half. -/
def prods (r : Fin 16384) (c : ℕ) : EReal := if h : c < 8192 then (∑ j : Fin 64, (U (ix2 r j) * U (ix2 ⟨(1 - r.val / 8192) * 8192 + c, other_lt r ⟨c, h⟩⟩ j) : EReal)) else ⊥

theorem block_row (r : Fin 16384) : r.val / 256 * 256 + r.val % 256 = r.val := Nat.div_add_mod' _ _

theorem table_row (r : Fin 16384) (k : Fin 64) : tableOf U (ix2 r ⟨k.val, by omega⟩) = U (ix2 r k) := by
  refine (topRows_row _ _ _ k).trans (congrArg (fun z => U (ix2 z k)) (Fin.ext (block_row r)))

theorem prod_at (X : FVec Ideal S256x64 .f32) (Y : FVec Ideal S8192x64 .f32) (R : Fin 256) (c : Fin 8192) :
    (k1_pay2 (F := Ideal) X Y (ix2 R c) : EReal) = ∑ j : Fin 64, (X (ix2 R j) * Y (ix2 c j) : EReal) := by
  pointwise [k1_pay2]

theorem rowF_eq (r : Fin 16384) : rowF (k1_pay2 (F := Ideal) (blockOf U r) (otherOf U r)) ⟨r.val % 256, Nat.mod_lt _ (by decide)⟩ = prods U r := by
  funext c
  unfold rowF prods
  by_cases h : c < 8192
  · rw [dif_pos h, dif_pos h, prod_at]
    refine Finset.sum_congr rfl fun j _ => ?_
    refine congrArg₂ (· * ·) (congrArg (fun z => U (ix2 z j)) (Fin.ext (block_row r))) rfl
  · rw [dif_neg h, dif_neg h]

theorem table_mean (r : Fin 16384) (u : ℕ → EReal) (hu : Greatest u (cnt (prods U r) 8192)) :
    tableOf U (ix2 r ⟨64, by decide⟩) = (∑ i ∈ Finset.range 10, u i) * ((10⁻¹ : ℝ) : EReal) := by
  have hr : r.val % 256 / 64 < 4 := by omega
  have e : (⟨r.val % 256, Nat.mod_lt _ (by decide)⟩ : Fin 256) = blockRow (r.val % 256 / 64) hr ⟨r.val % 256 % 64, Nat.mod_lt _ (by decide)⟩ :=
    Fin.ext (Nat.div_add_mod' _ _).symm
  show topRows (F := Ideal) (k1_pay2 (F := Ideal) (blockOf U r) (otherOf U r)) (blockOf U r) (ix2 ⟨r.val % 256, Nat.mod_lt _ (by decide)⟩ ⟨64, by decide⟩) = _
  rw [← rowF_eq U r, e] at hu
  rw [e, topRows_total _ _ _ hr, total_at _ _ hr _ u hu]

end Cert.Proof.I

end
-- ==== Proof.KernelValue.lean ====
/-
  What the kernel's two results hold: the logits of the rows of the table that the two lists name, the table holding each
  normalised row and after it the mean of its ten greatest products with the rows of the other half.
-/
module

public import proofs.«01_k».proof.Proof.KernelRun
public import proofs.«01_k».proof.Proof.TailValue
public import proofs.«01_k».proof.Proof.NormValue
public import proofs.«01_k».proof.Proof.TopValue

@[expose] public section

set_option maxRecDepth 16384

noncomputable section

namespace Cert.Proof.I

open Cert.KernelIdeal Cert.KernelIdeal.Gen

open Idealize.ShloMosaic Idealize.ShloMosaic.TcCoe Idealize.SL.Sem
open Idealize.ShloMosaic.SparseCore.Cfg (HIx)
open Idealize.ShloMosaic.StableHlo (after)

/-- The features of both halves, and the vectors of both, one half after the other. -/
abbrev bothFeats (a b : FVec Ideal S8192x64 .f32) : FVec Ideal S16384x64 .f32 :=
  concatenate S16384x64 0 [⟨S8192x64, a⟩, ⟨S8192x64, b⟩] concatenates_S8192x64_S8192x64_S16384x64_d0
abbrev bothVecs (v w : FVec Ideal S6x64x1 .f32) : FVec Ideal S2x6x64 .f32 :=
  concatenate S2x6x64 0 [⟨S1x6x64, shapeCast S1x6x64 v shapeCasts_S6x64x1_S1x6x64⟩, ⟨S1x6x64, shapeCast S1x6x64 w shapeCasts_S6x64x1_S1x6x64⟩]
    concatenates_S1x6x64_S1x6x64_S2x6x64_d0

/-- The normalised rows and the table of the arguments. -/
def unitsOf (a b : FVec Ideal S8192x64 .f32) (v w : FVec Ideal S6x64x1 .f32) : FVec Ideal S16384x64 .f32 := unitRows (bothFeats a b) (bothVecs v w)
def tabOf (a b : FVec Ideal S8192x64 .f32) (v w : FVec Ideal S6x64x1 .f32) : FVec Ideal S16384x128 .f32 := tableOf (unitsOf a b v w)

theorem units_src (a b : FVec Ideal S8192x64 .f32) (v w : FVec Ideal S6x64x1 .f32) (r : Fin 8192) (k : Fin 64) :
    unitsOf a b v w (ix2 ⟨r.val, by omega⟩ k) = unitRow (six reflK (fun j => a (ix2 r j)) (fun i j => v (ix3 i j 0))) k := by
  unfold unitsOf unitRows
  refine congrArg₂ (fun h v => unitRow (six reflK h v) k) (funext fun j => ?_) (funext fun i => funext fun j => ?_)
  · show bothFeats a b (ix2 ⟨r.val, by omega⟩ j) = _
    pointwise []
  · have e : (⟨r.val / 8192, by omega⟩ : Fin 2) = 0 := Fin.ext (Nat.div_eq_of_lt r.isLt)
    show bothVecs v w (ix3 ⟨r.val / 8192, by omega⟩ i j) = _
    rw [e]
    pointwise []

theorem units_tgt (a b : FVec Ideal S8192x64 .f32) (v w : FVec Ideal S6x64x1 .f32) (r : Fin 8192) (k : Fin 64) :
    unitsOf a b v w (ix2 ⟨8192 + r.val, by omega⟩ k) = unitRow (six reflK (fun j => b (ix2 r j)) (fun i j => w (ix3 i j 0))) k := by
  unfold unitsOf unitRows
  refine congrArg₂ (fun h v => unitRow (six reflK h v) k) (funext fun j => ?_) (funext fun i => funext fun j => ?_)
  · show bothFeats a b (ix2 ⟨8192 + r.val, by omega⟩ j) = _
    pointwise []
  · have e : (⟨(8192 + r.val) / 8192, by omega⟩ : Fin 2) = 1 := Fin.ext (by show (8192 + r.val) / 8192 = 1; omega)
    show bothVecs v w (ix3 ⟨(8192 + r.val) / 8192, by omega⟩ i j) = _
    rw [e]
    pointwise []

variable (m : (ℓ : Loc nD τ sig) → Buf (Elt Ideal) ℓ)

theorem table_eq (c : Dev nD) : table m c = tabOf (m ((c : Thread nD τ).loc main_arg0)) (m ((c : Thread nD τ).loc main_arg1))
    (m ((c : Thread nD τ).loc main_arg4)) (m ((c : Thread nD τ).loc main_arg5)) := by
  unfold table tabOf unitsOf
  rw [topOut_eq, U1_v4]
  unfold normRows
  rw [normOut_eq, U0_v0, U0_v3]

/-- The table's rows named by the sources, and by the targets in the second half. -/
abbrev srcRows (c : Dev nD) : FVec Ideal S16384x128 .f32 :=
  rowsOf (tabOf (m ((c : Thread nD τ).loc main_arg0)) (m ((c : Thread nD τ).loc main_arg1)) (m ((c : Thread nD τ).loc main_arg4)) (m ((c : Thread nD τ).loc main_arg5)))
    (m ((c : Thread nD τ).loc main_arg2))
abbrev tgtRows (c : Dev nD) : FVec Ideal S16384x128 .f32 :=
  rowsOf (tabOf (m ((c : Thread nD τ).loc main_arg0)) (m ((c : Thread nD τ).loc main_arg1)) (m ((c : Thread nD τ).loc main_arg4)) (m ((c : Thread nD τ).loc main_arg5)))
    (shifted (m ((c : Thread nD τ).loc main_arg3)))

theorem V4_v13_0 (c : Dev nD) : V4 m c main_v13_0 = logit (srcRows m c) (tgtRows m c) := by
  unfold V4 srcRows tgtRows
  rw [Function.update_of_ne (StableHlo.devRef_ne_of_ne (by decide)), Function.update_self, tailOut2_eq, ← table_eq]
  exact congrArg₂ logit (src_rows m c) (tgt_rows m c)
theorem V4_v13_1 (c : Dev nD) : V4 m c main_v13_1 = logit (tgtRows m c) (srcRows m c) := by
  unfold V4 srcRows tgtRows
  rw [Function.update_self, tailOut3_eq, ← table_eq]
  exact congrArg₂ logit (tgt_rows m c) (src_rows m c)

/-- The kernel's run where the lists name rows of the halves: its two results. -/
theorem run_value (ρ : Dev nD → PrngReg) (hb : ∀ c : Dev nD, Bounded (m ((c : Thread nD τ).loc main_arg2)) ∧ Bounded (m ((c : Thread nD τ).loc main_arg3))) :
    θ_run (defs (F := Ideal)) (threads (F := Ideal)) ⟨m, fun _ => 0, ρ⟩ (fun r => ∀ c : Dev nD,
      r.2.mem ((c : Thread nD τ).loc main_v13_0) = logit (srcRows m c) (tgtRows m c)
      ∧ r.2.mem ((c : Thread nD τ).loc main_v13_1) = logit (tgtRows m c) (srcRows m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨(h.1 c main_v13_0 (by decide)).trans (V4_v13_0 m c), (h.1 c main_v13_1 (by decide)).trans (V4_v13_1 m c),
      (h.1 c main_arg0 (by decide)).trans (V4_arg0 m c), (h.1 c main_arg1 (by decide)).trans (V4_arg1 m c), (h.1 c main_arg2 (by decide)).trans (V4_arg2 m c),
      (h.1 c main_arg3 (by decide)).trans (V4_arg3 m c), (h.1 c main_arg4 (by decide)).trans (V4_arg4 m c), (h.1 c main_arg5 (by decide)).trans (V4_arg5 m c)⟩)
    (run_main m ρ (inRange m hb))

end Cert.Proof.I

end
-- ==== Proof.RefGather.lean ====
/-
  The reference's gathers of rows and of numbers, read at an index.
-/
module

public import proofs.«01_k».proof.Proof.Gen.ReferenceIdeal.Run
public import Idealize.ShloMosaic.Lib.Pipeline.ValueKit

@[expose] public section

set_option maxRecDepth 16384

noncomputable section

namespace Cert.Proof.R

open Cert.ReferenceIdeal Cert.ReferenceIdeal.Gen

open Idealize.ShloMosaic Idealize.ShloMosaic.TcCoe Idealize.SL.Sem

/-! ## The row gathers, read at an index -/

section Gather
variable {α : Type}

/-- One row per list: row `b` of the result is the operand's row at index `b`, clamped. -/
theorem gather_row (x : S8192x64.Idx → α) (idx : IVec S1024x1 32) (b : Fin 1024) (k : Fin 64) :
    Host.gather gather_S8192x64_S1024x1_S1024x64_1_0_n_n_0_1_164 x idx (ix2 b k)
      = x (ix2 ⟨min (idx (ix2 b 0)).toInt.toNat 8191, by omega⟩ k) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S8192x64_S1024x1_S1024x64_1_0_n_n_0_1_164.startIndexMap from List.mem_singleton.mpr rfl)]
    refine congrArg (fun j => min (idx j).toInt.toNat 8191) ?_
    funext c
    refine Fin.ext ?_
    match c with
    | ⟨0, _⟩ => rfl
    | ⟨1, _⟩ => rfl
  · rw [GatherDims.batchCoord_eq_zero _ _ _ List.not_mem_nil]
    unfold GatherDims.start GatherDims.offCoord
    rw [dif_neg (show (1 : Fin 2) ∉ gather_S8192x64_S1024x1_S1024x64_1_0_n_n_0_1_164.startIndexMap from fun h => absurd (List.mem_singleton.mp h) (by decide)),
      dif_pos (show (1 : Fin 2) ∈ gather_S8192x64_S1024x1_S1024x64_1_0_n_n_0_1_164.sKept from (GatherDims.mem_sKept _ _).mpr ⟨fun h => absurd (List.mem_singleton.mp h) (by decide), List.not_mem_nil⟩)]
    simp only [Nat.zero_add]
    rfl

/-- One row per member: row `(b, l)` of the result is the operand's row at index `(b, l)`, clamped. -/
theorem gather_rows (x : S8192x64.Idx → α) (idx : IVec S1024x16x1 32) (b : Fin 1024) (l : Fin 16) (k : Fin 64) :
    Host.gather gather_S8192x64_S1024x16x1_S1024x16x64_2_0_n_n_0_2_164 x idx (ix3 b l k)
      = x (ix2 ⟨min (idx (ix3 b l 0)).toInt.toNat 8191, by omega⟩ k) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S8192x64_S1024x16x1_S1024x16x64_2_0_n_n_0_2_164.startIndexMap from List.mem_singleton.mpr rfl)]
    refine congrArg (fun j => min (idx j).toInt.toNat 8191) ?_
    funext c
    refine Fin.ext ?_
    match c with
    | ⟨0, _⟩ => rfl
    | ⟨1, _⟩ => rfl
    | ⟨2, _⟩ => rfl
  · rw [GatherDims.batchCoord_eq_zero _ _ _ List.not_mem_nil]
    unfold GatherDims.start GatherDims.offCoord
    rw [dif_neg (show (1 : Fin 2) ∉ gather_S8192x64_S1024x16x1_S1024x16x64_2_0_n_n_0_2_164.startIndexMap from fun h => absurd (List.mem_singleton.mp h) (by decide)),
      dif_pos (show (1 : Fin 2) ∈ gather_S8192x64_S1024x16x1_S1024x16x64_2_0_n_n_0_2_164.sKept from (GatherDims.mem_sKept _ _).mpr ⟨fun h => absurd (List.mem_singleton.mp h) (by decide), List.not_mem_nil⟩)]
    simp only [Nat.zero_add]
    rfl

/-- One number per member: entry `(b, l)` is the operand's entry at index `(b, l)`, clamped. -/
theorem gather_entry (x : S8192.Idx → α) (idx : IVec S1024x16x1 32) (b : Fin 1024) (l : Fin 16) :
    Host.gather gather_S8192_S1024x16x1_S1024x16_n_0_n_n_0_2_1 x idx (ix2 b l)
      = x (ix1 ⟨min (idx (ix3 b l 0)).toInt.toNat 8191, by omega⟩) := by
  refine (ValueIdx.gather_take_apply (by decide) _ x idx (ix2 b l)).trans ?_
  refine congrArg (fun j => x (ix1 ⟨min (idx j).toInt.toNat 8191, by omega⟩)) ?_
  funext c
  match c with
  | ⟨0, _⟩ => rfl
  | ⟨1, _⟩ => rfl
  | ⟨2, _⟩ => rfl

end Gather

/-! ## Indices counted from the end -/

/-- A negative index means one counted from the end. -/
def wrap {sh : Shape} (h : S_.BroadcastsInDim sh (![] : Fin 0 → Fin sh.rank)) (s : IVec sh 32) : IVec sh 32 :=
  select (cmpi .slt s (broadcastInDim sh ![] h (constantI S_ 32 0#32))) (addi s (broadcastInDim sh ![] h (constantI S_ 32 8192#32))) s

theorem toInt_small (w : BitVec 32) (h : w.toNat < 8192) : w.toInt = w.toNat := by
  rw [BitVec.toInt_eq_toNat_cond, if_pos (by omega)]

theorem wrap_eq {sh : Shape} (h : S_.BroadcastsInDim sh (![] : Fin 0 → Fin sh.rank)) (s : IVec sh 32) (hs : ∀ j, (s j).toNat < 8192) : wrap h s = s := by
  funext j
  show Scalar.select (IntOp.cmpi .slt (s j) 0#32) (IntOp.addi (s j) 8192#32) (s j) = s j
  have e : IntOp.cmpi .slt (s j) 0#32 = 0#1 := by
    show BitVec.ofBool (BitVec.slt (s j) 0#32) = 0#1
    rw [BitVec.slt_eq_decide, toInt_small _ (hs j), decide_eq_false (by show ¬ ((s j).toNat : ℤ) < 0; omega)]
    rfl
  rw [e]
  rfl

/-- The first index of each list. -/
abbrev firsts (s : IVec S1024x16 32) : IVec S1024 32 := shapeCast S1024 (extractStridedSlice S1024x1 ![0, 0] s slices_S1024x16_S1024x1_0_0) shapeCasts_S1024x1_S1024

end Cert.Proof.R

end
-- ==== Proof.RefRows.lean ====
/-
  The reference's rows: the reflections by matrices, and the division by the length, read at an index.
-/
module

public import proofs.«01_k».proof.Proof.Gen.ReferenceIdeal.Run
public import proofs.«01_k».proof.Proof.TowerMath
public import proofs.«01_k».proof.Proof.RefGather

@[expose] public section

set_option maxRecDepth 16384

noncomputable section

namespace Cert.Proof.R

open Cert.ReferenceIdeal Cert.ReferenceIdeal.Gen

open Idealize.ShloMosaic Idealize.ShloMosaic.TcCoe Idealize.SL.Sem

open Cert.Proof (reflR six unitRow leastNorm)

/-- The matrix with `1` on its diagonal. -/
theorem iden_at (V : Valuation τ sig (Elt Ideal)) (j k : Fin 64) :
    (Cert.ReferenceIdeal.Value.res_main_v5 V : FVec Ideal S64x64 .f32) (ix2 j k) = if j = k then (1 : EReal) else 0 := by
  show (((BitVec.ofBool (BitVec.ofNat 32 j.val + 0#32 == BitVec.ofNat 32 k.val)).toNat : ℝ) : EReal) = _
  have e : (BitVec.ofNat 32 j.val + 0#32 == BitVec.ofNat 32 k.val) = decide (j = k) := by
    revert j k; decide +kernel
  rw [e]
  by_cases h : j = k
  · rw [if_pos h, decide_eq_true h]; simp
  · rw [if_neg h, decide_eq_false h]; simp

/-- One reflection of all rows. -/
abbrev step (A : FVec Ideal S8192x64 .f32) (I : FVec Ideal S64x64 .f32) (w : FVec Ideal S64x1 .f32) : FVec Ideal S8192x64 .f32 :=
  Host.dotGeneral dot_S8192x64_S64x64_S8192x64_1_0_0_1_n_n none A (subf I (Host.divf
    (Host.dotGeneral dot_S64x1_S1x64_S64x64_1_0_0_1_n_n none w (transpose S1x64 [1, 0] w transposes_S64x1_S1x64_1_0))
    (broadcastInDim S64x64 ![0, 1] bcast_S1x1_S64x64_0_1 (Host.dotGeneral dot_S1x64_S64x1_S1x1_1_0_0_1_n_n none (transpose S1x64 [1, 0] w transposes_S64x1_S1x64_1_0) w))))

theorem step_at (A : FVec Ideal S8192x64 .f32) (I : FVec Ideal S64x64 .f32) (hI : ∀ j k, I (ix2 j k) = if j = k then (1 : EReal) else 0)
    (w : FVec Ideal S64x1 .f32) (r : Fin 8192) (k : Fin 64) :
    step A I w (ix2 r k) = reflR (fun j => A (ix2 r j)) (fun j => w (ix2 j 0)) k := by
  pointwise [reflR, hI]
  simp only [Fin.sum_univ_one, Fin.isValue]

/-- Vector `i` of the six. -/
abbrev vec (v : FVec Ideal S6x64x1 .f32) (i : ℕ) (h : S6x64x1.Slices ![i, 0, 0] S1x64x1) : FVec Ideal S64x1 .f32 :=
  shapeCast S64x1 (extractStridedSlice S1x64x1 ![i, 0, 0] v h) shapeCasts_S1x64x1_S64x1

/-- All rows reflected in the six vectors. -/
abbrev tower (A : FVec Ideal S8192x64 .f32) (I : FVec Ideal S64x64 .f32) (v : FVec Ideal S6x64x1 .f32) : FVec Ideal S8192x64 .f32 :=
  step (step (step (step (step (step A I (vec v 0 slices_S6x64x1_S1x64x1_0_0_0)) I (vec v 1 slices_S6x64x1_S1x64x1_1_0_0))
    I (vec v 2 slices_S6x64x1_S1x64x1_2_0_0)) I (vec v 3 slices_S6x64x1_S1x64x1_3_0_0)) I (vec v 4 slices_S6x64x1_S1x64x1_4_0_0))
    I (vec v 5 slices_S6x64x1_S1x64x1_5_0_0)

theorem vec_at (v : FVec Ideal S6x64x1 .f32) (i : Fin 6) (h : S6x64x1.Slices ![i.val, 0, 0] S1x64x1) (j : Fin 64) : vec v i.val h (ix2 j 0) = v (ix3 i j 0) := by
  pointwise []

theorem tower_at (A : FVec Ideal S8192x64 .f32) (I : FVec Ideal S64x64 .f32) (hI : ∀ j k, I (ix2 j k) = if j = k then (1 : EReal) else 0)
    (v : FVec Ideal S6x64x1 .f32) (r : Fin 8192) (k : Fin 64) :
    tower A I v (ix2 r k) = six reflR (fun j => A (ix2 r j)) (fun i j => v (ix3 i j 0)) k := by
  unfold tower
  simp only [step_at _ I hI]
  simp only [show ∀ h j, vec v 0 h (ix2 j 0) = v (ix3 0 j 0) from vec_at v 0, show ∀ h j, vec v 1 h (ix2 j 0) = v (ix3 1 j 0) from vec_at v 1,
    show ∀ h j, vec v 2 h (ix2 j 0) = v (ix3 2 j 0) from vec_at v 2, show ∀ h j, vec v 3 h (ix2 j 0) = v (ix3 3 j 0) from vec_at v 3,
    show ∀ h j, vec v 4 h (ix2 j 0) = v (ix3 4 j 0) from vec_at v 4, show ∀ h j, vec v 5 h (ix2 j 0) = v (ix3 5 j 0) from vec_at v 5]
  rfl

theorem v65_eq (V : Valuation τ sig (Elt Ideal)) : Cert.ReferenceIdeal.Value.res_main_v65 V
    = tower (V (Proc.devRef .tc main_arg0)) (Cert.ReferenceIdeal.Value.res_main_v5 V) (V (Proc.devRef .tc main_arg4)) := rfl
theorem v131_eq (V : Valuation τ sig (Elt Ideal)) : Cert.ReferenceIdeal.Value.res_main_v131 V
    = tower (V (Proc.devRef .tc main_arg1)) (Cert.ReferenceIdeal.Value.res_main_v5 V) (V (Proc.devRef .tc main_arg5)) := rfl

/-! ## The rows over their lengths -/

/-- All rows over their lengths. -/
abbrev unitAll (A : FVec Ideal S8192x64 .f32) : FVec Ideal S8192x64 .f32 :=
  Host.divf A (broadcastInDim S8192x64 ![0, 1] bcast_S8192x1_S8192x64_0_1 (maximumf (Host.sqrt (broadcastInDim S8192x1 ![0] bcast_S8192_S8192x1_0
    (Host.reduceAdd (mulf A A) (constant S_ .f32 0x00000000#32) reducesTo_S8192x64_S8192_d1 h_S_))) (broadcastInDim S8192x1 ![] bcast_S_S8192x1 (constant S_ .f32 0x2B8CBCCC#32))))
/-- The lists' first rows over their lengths. -/
abbrev unitFirst (A : FVec Ideal S1024x64 .f32) : FVec Ideal S1024x64 .f32 :=
  Host.divf A (broadcastInDim S1024x64 ![0, 1] bcast_S1024x1_S1024x64_0_1 (maximumf (Host.sqrt (broadcastInDim S1024x1 ![0] bcast_S1024_S1024x1_0
    (Host.reduceAdd (mulf A A) (constant S_ .f32 0x00000000#32) reducesTo_S1024x64_S1024_d1 h_S_))) (broadcastInDim S1024x1 ![] bcast_S_S1024x1 (constant S_ .f32 0x2B8CBCCC#32))))
/-- The lists' rows over their lengths. -/
abbrev unitMembers (A : FVec Ideal S1024x16x64 .f32) : FVec Ideal S1024x16x64 .f32 :=
  Host.divf A (broadcastInDim S1024x16x64 ![0, 1, 2] bcast_S1024x16x1_S1024x16x64_0_1_2 (maximumf (Host.sqrt (broadcastInDim S1024x16x1 ![0, 1] bcast_S1024x16_S1024x16x1_0_1
    (Host.reduceAdd (mulf A A) (constant S_ .f32 0x00000000#32) reducesTo_S1024x16x64_S1024x16_d2 h_S_))) (broadcastInDim S1024x16x1 ![] bcast_S_S1024x16x1 (constant S_ .f32 0x2B8CBCCC#32))))

theorem unitAll_at (A : FVec Ideal S8192x64 .f32) (r : Fin 8192) (k : Fin 64) : unitAll A (ix2 r k) = unitRow (fun j => A (ix2 r j)) k := by
  pointwise [unitRow]
theorem unitFirst_at (A : FVec Ideal S1024x64 .f32) (b : Fin 1024) (k : Fin 64) : unitFirst A (ix2 b k) = unitRow (fun j => A (ix2 b j)) k := by
  pointwise [unitRow]
theorem unitMembers_at (A : FVec Ideal S1024x16x64 .f32) (b : Fin 1024) (l : Fin 16) (k : Fin 64) :
    unitMembers A (ix3 b l k) = unitRow (fun j => A (ix3 b l j)) k := by
  pointwise [unitRow]

end Cert.Proof.R

end
-- ==== Proof.RefTop.lean ====
/-
  The reference's means: the ten greatest entries of each row of a square array, summed and divided by ten.
-/
module

public import proofs.«01_k».proof.Proof.TopMath
public import proofs.«01_k».proof.Proof.RefGather

@[expose] public section

set_option maxRecDepth 16384

noncomputable section

namespace Cert.Proof.R

open Cert.ReferenceIdeal Cert.ReferenceIdeal.Gen

open Idealize.ShloMosaic Idealize.ShloMosaic.TcCoe Idealize.SL.Sem
open Cert.Proof.Top

variable (A : FVec Ideal S8192x8192 .f32)

/-- The column of row `r` that holds its entry `i` in decreasing order. -/
def place (r : Fin 8192) (i : Fin 8192) : Fin 8192 := sortedFrom (fun k k' => decide ((A (ix2 r k') : EReal) < A (ix2 r k))) i

theorem along_at (r i q : Fin 8192) : (ix2 r i : S8192x8192.Idx).along 1 q = ix2 r q := by
  funext a
  match a with
  | 0 => rfl
  | 1 => rfl

theorem gt_at (a b : EReal) : (FloatOps.cmpfTotal (F := Ideal) (φ := .f32) .gt a b == 1#1) = decide (b < a) := by
  show (BitVec.ofBool (decide (b < a)) == 1#1) = decide (b < a)
  by_cases h : b < a
  · rw [decide_eq_true h]; rfl
  · rw [decide_eq_false h]; rfl

theorem topK_at (r : Fin 8192) (i : Fin 10) :
    (Host.topK S8192x10 1 (FloatOps.cmpfTotal .gt) A sliceFits_S8192x8192_S8192x10).1 (ix2 r i) = A (ix2 r (place A r ⟨i.val, by omega⟩)) := by
  unfold Host.topK
  dsimp only
  refine (Idealize.ShloMosaic.extractStridedSlice_apply (fun _ => 0) _ _ (ix2 r i : S8192x10.Idx) (ix2 r (⟨i.val, by omega⟩ : Fin 8192) : S8192x8192.Idx) ?_).trans ?_
  · intro a
    match a with
    | 0 => exact (Nat.zero_add _).symm
    | 1 => exact (Nat.zero_add _).symm
  · unfold Host.sort2
    rw [dif_pos (show 1 < S8192x8192.rank by decide)]
    refine congrArg A ?_
    refine (along_at r _ _).trans (congrArg (ix2 r) ?_)
    unfold place
    refine congrFun (congrArg sortedFrom (funext fun k => funext fun k' => ?_)) _
    refine (gt_at _ _).trans ?_
    exact congrArg₂ (fun x y => decide ((A x : EReal) < A y)) (along_at r _ k') (along_at r _ k)

/-- The means of the ten greatest entries of each row. -/
abbrev means : FVec Ideal S8192 .f32 :=
  Host.divf (Host.reduceAdd ((Host.topK S8192x10 1 (FloatOps.cmpfTotal .gt) A sliceFits_S8192x8192_S8192x10).1) (constant S_ .f32 0x00000000#32) reducesTo_S8192x10_S8192_d1 h_S_)
    (broadcastInDim S8192 ![] bcast_S_S8192 (constant S_ .f32 0x41200000#32))

/-- Row `r`'s entries in decreasing order. -/
def inOrder (r : Fin 8192) (i : ℕ) : EReal := if h : i < 10 then A (ix2 r (place A r ⟨i, by omega⟩)) else ⊥

/-- Row `r` as a sequence. -/
def rowS (r : Fin 8192) (c : ℕ) : EReal := if h : c < 8192 then A (ix2 r ⟨c, h⟩) else ⊥

theorem inOrder_greatest (r : Fin 8192) : Greatest (inOrder A r) (cnt (rowS A r) 8192) :=
  greatest_sorted (by decide) (fun c => A (ix2 r c)) _ (fun j => dif_pos j.isLt) _ fun i hi => dif_pos hi

theorem ten : Ideal.ofBits FTy.f32 0x41200000#32 = ((10 : ℝ) : EReal) := by
  simp [Ideal.ofBits, Ideal.ieee]
  rw [← EReal.coe_mul]
  norm_num

theorem means_at (r : Fin 8192) : means A (ix1 r) = (∑ i ∈ Finset.range 10, inOrder A r i) * ((10⁻¹ : ℝ) : EReal) := by
  have e : means A (ix1 r) = Ideal.div (∑ i : Fin 10, ((Host.topK S8192x10 1 (FloatOps.cmpfTotal .gt) A sliceFits_S8192x8192_S8192x10).1 (ix2 r i) : EReal)) (Ideal.ofBits FTy.f32 0x41200000#32) := by
    pointwise []
  rw [e, ten, Ideal.div, if_neg (by norm_num), ← EReal.coe_inv]
  refine congrArg (· * ((10⁻¹ : ℝ) : EReal)) ?_
  rw [Finset.sum_range]
  refine Finset.sum_congr rfl fun i _ => ?_
  rw [topK_at]
  unfold inOrder
  rw [dif_pos i.isLt]

end Cert.Proof.R

end
-- ==== Proof.TowerAny.lean ====
/-
  The reflection of a finite row in six vectors, whatever these hold. A vector with an infinite entry leaves the row as it
  is in either form. A vector of zeros leaves infinities, in one form all over the row, in the other all over it or
  nowhere. A row with an infinity has an infinite length, and over it each entry is zero; so after the division by the
  length the two forms agree.
-/
module

public import proofs.«01_k».proof.Proof.TowerMath

@[expose] public section

noncomputable section

namespace Cert.Proof

open Idealize.ShloMosaic

/-- Either infinity. -/
def Infinite' (x : EReal) : Prop := x = ⊤ ∨ x = ⊥

theorem real_or_infinite (x : EReal) : Real' x ∨ Infinite' x := by
  by_cases h : x = ⊤
  · exact .inr (.inl h)
  · by_cases h' : x = ⊥
    · exact .inr (.inr h')
    · exact .inl ⟨h, h'⟩

theorem infinite_sub {x : EReal} (hx : Infinite' x) (y : EReal) : Infinite' (x - y) := by
  rcases hx with rfl | rfl
  · by_cases h : y = ⊤
    · subst h; right; rfl
    · left; exact EReal.top_sub h
  · right; exact EReal.bot_sub y

theorem infinite_add {x : EReal} (hx : Infinite' x) (y : EReal) : Infinite' (x + y) := by
  rcases hx with rfl | rfl
  · by_cases h : y = ⊥
    · subst h; right; exact EReal.add_bot ⊤
    · left; exact EReal.top_add_of_ne_bot h
  · right; exact EReal.bot_add y

theorem infinite_mul {x y : EReal} (hx : Infinite' x) (hy : y ≠ 0) : Infinite' (x * y) := by
  rcases lt_or_gt_of_ne hy with h | h <;> rcases hx with rfl | rfl
  · right; exact EReal.top_mul_of_neg h
  · left; exact EReal.bot_mul_of_neg h
  · left; exact EReal.top_mul_of_pos h
  · right; exact EReal.bot_mul_of_pos h

theorem infinite_sum (f : Fin 64 → EReal) (k : Fin 64) (hk : Infinite' (f k)) : Infinite' (∑ j, f j) := by
  rw [← Finset.add_sum_erase _ _ (Finset.mem_univ k)]
  exact infinite_add hk _

theorem square_nonneg (x : EReal) : 0 ≤ x * x := by
  induction x with
  | bot => rw [EReal.bot_mul_bot]; exact le_top
  | top => rw [EReal.top_mul_top]; exact le_top
  | coe x => rw [← EReal.coe_mul]; exact EReal.coe_nonneg.mpr (mul_self_nonneg x)

/-- A row with an infinite entry has an infinite length. -/
theorem squares_top (v : Fin 64 → EReal) (k : Fin 64) (hk : Infinite' (v k)) : ∑ j, v j * v j = ⊤ := by
  rw [← Finset.add_sum_erase _ _ (Finset.mem_univ k)]
  have e : v k * v k = ⊤ := by
    rcases hk with h | h <;> rw [h]
    · exact EReal.top_mul_top
    · exact EReal.bot_mul_bot
  rw [e]
  refine EReal.top_add_of_ne_bot fun h => ?_
  have : (0 : EReal) ≤ ∑ j ∈ Finset.univ.erase k, v j * v j := Finset.sum_nonneg fun j _ => square_nonneg _
  rw [h] at this
  exact absurd this (by simp)

theorem div_top (x : EReal) : Ideal.div x ⊤ = 0 := by
  rw [Ideal.div, if_neg (by simp), EReal.inv_top, mul_zero]

theorem unitRow_infinite (h : Fin 64 → EReal) (k : Fin 64) (hk : Infinite' (h k)) : unitRow h = fun _ => 0 := by
  funext j
  unfold unitRow
  rw [squares_top h k hk, Ideal.sqrt_top, max_eq_left le_top, div_top]

/-- By a vector with an infinite entry nothing changes. -/
theorem reflK_infinite (h v : Fin 64 → EReal) (k : Fin 64) (hk : Infinite' (v k)) : reflK h v = h := by
  funext j
  unfold reflK
  rw [squares_top v k hk, div_top, sub_zero]
theorem reflR_infinite (h v : Fin 64 → EReal) (k : Fin 64) (hk : Infinite' (v k)) : reflR h v = h := by
  funext i
  unfold reflR
  rw [squares_top v k hk]
  simp [div_top]

/-- By a vector of zeros a row gets infinities everywhere, or, if its form is the second and it is zero, stays. -/
theorem reflK_zero (h : Fin 64 → EReal) (k : Fin 64) : Infinite' (reflK h (fun _ => 0) k) := by
  have e : reflK h (fun _ => 0) k = h k - ⊥ := by unfold reflK; simp [Ideal.div]
  rw [e, sub_eq_add_neg, EReal.neg_bot, add_comm]
  exact infinite_add (.inl rfl) _
theorem reflR_zero (h : Fin 64 → EReal) (j : Fin 64) (hj : h j ≠ 0) (k : Fin 64) : Infinite' (reflR h (fun _ => 0) k) := by
  refine infinite_sum _ j ?_
  have e : ((if j = k then (1 : EReal) else 0) - Ideal.div ((0 : EReal) * 0) (∑ _i : Fin 64, (0 : EReal) * 0)) = ⊤ := by
    split <;> simp [Ideal.div]
    rfl
  show Infinite' (h j * ((if j = k then (1 : EReal) else 0) - Ideal.div ((0 : EReal) * 0) (∑ _i : Fin 64, (0 : EReal) * 0)))
  rw [e, mul_comm]
  exact infinite_mul (.inl rfl) hj

theorem reflR_of_zero (v : Fin 64 → EReal) : reflR (fun _ => 0) v = fun _ => 0 := by
  funext k; unfold reflR; simp

/-- A step of the second form by a finite vector keeps an infinite entry, unless the vector's other entries are all zero. -/
theorem reflR_keeps (h : Fin 64 → EReal) (w : Fin 64 → ℝ) (hs : (∑ j, w j * w j) ≠ 0) (k : Fin 64) (hk : Infinite' (h k)) (hw : w k * w k ≠ ∑ j, w j * w j) :
    Infinite' (reflR h (fun j => (w j : EReal)) k) := by
  refine infinite_sum _ k (infinite_mul hk ?_)
  have es : (∑ j, ((w j : EReal) * (w j : EReal))) = ((∑ j, w j * w j : ℝ) : EReal) := by
    rw [coe_total]; exact Finset.sum_congr rfl fun j _ => (EReal.coe_mul _ _).symm
  rw [if_pos rfl, es, ← EReal.coe_mul, div_coe _ _ hs, ← EReal.coe_one, ← EReal.coe_sub]
  intro e
  have e' : 1 - w k * w k / ∑ j, w j * w j = 0 := by exact_mod_cast e
  exact hw ((div_eq_one_iff_eq hs).mp (sub_eq_zero.mp e').symm)

/-- At most one entry is alone in not being zero. -/
theorem alone (w : Fin 64 → ℝ) (hs : (∑ j, w j * w j) ≠ 0) (k l : Fin 64) (hk : w k * w k = ∑ j, w j * w j) (hl : w l * w l = ∑ j, w j * w j) : k = l := by
  by_contra hne
  have h : w k * w k + w l * w l ≤ ∑ j, w j * w j := by
    rw [← Finset.sum_pair (f := fun j => w j * w j) hne]
    exact Finset.sum_le_sum_of_subset_of_nonneg (Finset.subset_univ _) fun j _ _ => mul_self_nonneg _
  have p : 0 < ∑ j, w j * w j := lt_of_le_of_ne (Finset.sum_nonneg fun j _ => mul_self_nonneg _) (Ne.symm hs)
  linarith

/-- How the two forms' rows compare after `n` steps: equal and finite, or such that both vanish over their lengths. -/
def Alike (n : ℕ) (h g : Fin 64 → EReal) : Prop :=
  (g = h ∧ ∀ k, Real' (h k)) ∨ ((∃ k, Infinite' (h k)) ∧ ((g = fun _ => 0) ∨ ∃ T : Finset (Fin 64), 64 ≤ T.card + n ∧ ∀ k ∈ T, Infinite' (g k)))

theorem Alike.step {n : ℕ} (hn : n < 64) {h g : Fin 64 → EReal} (H : Alike n h g) (v : Fin 64 → EReal) : Alike (n + 1) (reflK h v) (reflR g v) := by
  by_cases hi : ∃ k, Infinite' (v k)
  · obtain ⟨k, hk⟩ := hi
    rw [reflK_infinite h v k hk, reflR_infinite g v k hk]
    rcases H with H | ⟨H, H' | ⟨T, hT, H'⟩⟩
    exacts [.inl H, .inr ⟨H, .inl H'⟩, .inr ⟨H, .inr ⟨T, by omega, H'⟩⟩]
  have hv : ∀ j, Real' (v j) := fun j => (real_or_infinite (v j)).resolve_right fun e => hi ⟨j, e⟩
  by_cases hz : ∃ j, v j ≠ 0
  · rcases H with ⟨rfl, H⟩ | ⟨⟨k, hk⟩, H⟩
    · obtain ⟨e, r⟩ := refl_eq g v H hv hz
      exact .inl ⟨e, r⟩
    · refine .inr ⟨⟨k, infinite_sub hk _⟩, ?_⟩
      rcases H with rfl | ⟨T, hT, H⟩
      · exact .inl (reflR_of_zero v)
      · right
        obtain ⟨w, rfl⟩ := exists_reals v hv
        have hs : (∑ j, w j * w j) ≠ 0 := by
          obtain ⟨i, hi⟩ := hz
          have hi : w i ≠ 0 := fun e => hi (by show (w i : EReal) = 0; rw [e]; rfl)
          exact ne_of_gt (Finset.sum_pos' (fun j _ => mul_self_nonneg _) ⟨i, Finset.mem_univ _, lt_of_le_of_ne (mul_self_nonneg _) (Ne.symm (mul_ne_zero hi hi))⟩)
        by_cases ha : ∃ l, w l * w l = ∑ j, w j * w j
        · obtain ⟨l, hl⟩ := ha
          refine ⟨T.erase l, ?_, fun k hk => reflR_keeps g w hs k (H k (Finset.mem_of_mem_erase hk)) fun e => Finset.ne_of_mem_erase hk (alone w hs k l e hl)⟩
          have := Finset.pred_card_le_card_erase (s := T) (a := l)
          omega
        · exact ⟨T, by omega, fun k hk => reflR_keeps g w hs k (H k hk) fun e => ha ⟨k, e⟩⟩
  · have e : v = fun _ => 0 := funext fun j => by
      by_contra hc
      exact hz ⟨j, hc⟩
    subst e
    refine .inr ⟨⟨0, reflK_zero h 0⟩, ?_⟩
    by_cases hg : ∃ j, g j ≠ 0
    · obtain ⟨j, hj⟩ := hg
      exact .inr ⟨Finset.univ, by rw [Finset.card_univ, Fintype.card_fin]; omega, fun k _ => reflR_zero g j hj k⟩
    · left
      have e : g = fun _ => 0 := funext fun j => by
        by_contra hc
        exact hg ⟨j, hc⟩
      rw [e]
      exact reflR_of_zero _

theorem leastNorm_pos : 0 < leastNorm := by
  have e1 : (BitVec.extractLsb' (8 + 23) 1 0x2B8CBCCC#32 == 1#1) = false := by decide
  have e2 : (BitVec.extractLsb' 23 8 0x2B8CBCCC#32).toNat = 87 := by decide
  show 0 < Ideal.ieee 8 23 0x2B8CBCCC#32
  simp only [Ideal.ieee, e1, e2]
  rw [if_neg (by norm_num), if_neg (by norm_num)]
  exact EReal.coe_pos.mpr (mul_pos (mul_pos (by norm_num) (Nat.cast_pos.mpr (by positivity))) (by positivity))

theorem unitRow_zero : unitRow (fun _ => 0) = fun _ => 0 := by
  funext k
  have p : max (Ideal.sqrt (∑ _j : Fin 64, (0 : EReal) * 0)) leastNorm ≠ 0 := ne_of_gt (lt_of_lt_of_le leastNorm_pos (le_max_right _ _))
  show Ideal.div 0 (max (Ideal.sqrt (∑ _j : Fin 64, (0 : EReal) * 0)) leastNorm) = 0
  rw [Ideal.div, if_neg p, zero_mul]

/-- On a finite row, whatever the vectors hold, the two forms agree over their lengths. -/
theorem unit_six_eq (h : Fin 64 → EReal) (v : Fin 6 → Fin 64 → EReal) (hh : ∀ j, Real' (h j)) : unitRow (six reflR h v) = unitRow (six reflK h v) := by
  have H : Alike 6 (six reflK h v) (six reflR h v) :=
    ((((((show Alike 0 h h from .inl ⟨rfl, hh⟩).step (by decide) (v 0)).step (by decide) (v 1)).step (by decide) (v 2)).step (by decide) (v 3)).step (by decide) (v 4)).step
      (by decide) (v 5)
  rcases H with ⟨e, -⟩ | ⟨⟨k, hk⟩, H⟩
  · rw [e]
  · rw [unitRow_infinite _ k hk]
    rcases H with e | ⟨T, hT, H⟩
    · rw [e, unitRow_zero]
    · obtain ⟨l, hl⟩ : T.Nonempty := Finset.card_pos.mp (by omega)
      exact unitRow_infinite _ l (H l hl)

end Cert.Proof

end
-- ==== Proof.RefValue.lean ====
/-
  What the reference computes, entry by entry, and that it is what the kernel leaves.
-/
module

public import proofs.«01_k».proof.Proof.RefRows
public import proofs.«01_k».proof.Proof.RefTop
public import proofs.«01_k».proof.Proof.TowerAny
public import proofs.«01_k».proof.Proof.KernelValue

@[expose] public section

set_option maxRecDepth 16384

noncomputable section

namespace Cert.Proof.R

open Cert.ReferenceIdeal Cert.ReferenceIdeal.Gen

open Idealize.ShloMosaic Idealize.ShloMosaic.TcCoe Idealize.SL.Sem
open Cert.Proof.Top
open Cert.KernelIdeal (S16384x64 S16384x128)
open Cert.Proof.I (logit logitAt rowsOf shifted shifted_toNat memberRow tableOf table_row table_mean prods unitsOf tabOf units_src units_tgt)

/-! ## The logits -/

/-- The logits of the rows `H` at the first indices against the rows `G` at all the indices of `t`, all over their
    lengths, less the numbers of both. -/
abbrev logits (H G : FVec Ideal S8192x64 .f32) (ra rc : FVec Ideal S8192 .f32) (s t : IVec S1024x16 32) : FVec Ideal S1024x16 .f32 :=
  subf (subf (mulf (shapeCast S1024x16 (Host.dotGeneral dot_S1024x1x64_S1024x64x16_S1024x1x16_2_1_1_2_0_0 none
      (broadcastInDim S1024x1x64 ![0, 2] bcast_S1024x64_S1024x1x64_0_2
        (unitFirst (Host.gather gather_S8192x64_S1024x1_S1024x64_1_0_n_n_0_1_164 H (broadcastInDim S1024x1 ![0] bcast_S1024_S1024x1_0 (wrap bcast_S_S1024 (firsts s))))))
      (transpose S1024x64x16 [0, 2, 1] (unitMembers (Host.gather gather_S8192x64_S1024x16x1_S1024x16x64_2_0_n_n_0_2_164 G
        (broadcastInDim S1024x16x1 ![0, 1] bcast_S1024x16_S1024x16x1_0_1 (wrap bcast_S_S1024x16 t)))) transposes_S1024x16x64_S1024x64x16_0_2_1)) shapeCasts_S1024x1x16_S1024x16)
    (broadcastInDim S1024x16 ![] bcast_S_S1024x16 (constant S_ .f32 0x40000000#32)))
    (broadcastInDim S1024x16 ![0, 1] bcast_S1024x1_S1024x16_0_1 (extractStridedSlice S1024x1 ![0, 0] (Host.gather gather_S8192_S1024x16x1_S1024x16_n_0_n_n_0_2_1 ra (broadcastInDim S1024x16x1 ![0, 1] bcast_S1024x16_S1024x16x1_0_1 (wrap bcast_S_S1024x16 s))) slices_S1024x16_S1024x1_0_0)))
    (Host.gather gather_S8192_S1024x16x1_S1024x16_n_0_n_n_0_2_1 rc (broadcastInDim S1024x16x1 ![0, 1] bcast_S1024x16_S1024x16x1_0_1 (wrap bcast_S_S1024x16 t)))

theorem logits_at (H G : FVec Ideal S8192x64 .f32) (ra rc : FVec Ideal S8192 .f32) (s t : IVec S1024x16 32) (hs : Bounded s) (ht : Bounded t) (b : Fin 1024) (l : Fin 16) :
    logits H G ra rc s t (ix2 b l) =
      Cert.Proof.I.two * (∑ k : Fin 64, (unitRow (fun j => H (ix2 ⟨(s (ix2 b 0)).toNat, hs _⟩ j)) k * unitRow (fun j => G (ix2 ⟨(t (ix2 b l)).toNat, ht _⟩ j)) k : EReal))
        - ra (ix1 ⟨(s (ix2 b 0)).toNat, hs _⟩) - rc (ix1 ⟨(t (ix2 b l)).toNat, ht _⟩) := by
  unfold logits
  rw [wrap_eq _ (firsts s) (fun j => hs _), wrap_eq _ s hs, wrap_eq _ t ht]
  have e1 : ∀ (A : FVec Ideal S1024x64 .f32) (b : Fin 1024) (k : Fin 64), unitFirst A (ix2 b k) = unitRow (fun j => A (ix2 b j)) k := unitFirst_at
  have e2 : ∀ (A : FVec Ideal S1024x16x64 .f32) (b : Fin 1024) (l : Fin 16) (k : Fin 64), unitMembers A (ix3 b l k) = unitRow (fun j => A (ix3 b l j)) k := unitMembers_at
  generalize hP : unitFirst (Host.gather gather_S8192x64_S1024x1_S1024x64_1_0_n_n_0_1_164 H (broadcastInDim S1024x1 ![0] bcast_S1024_S1024x1_0 (firsts s))) = P
  generalize hQ : unitMembers (Host.gather gather_S8192x64_S1024x16x1_S1024x16x64_2_0_n_n_0_2_164 G (broadcastInDim S1024x16x1 ![0, 1] bcast_S1024x16_S1024x16x1_0_1 t)) = Q
  have es : (⟨min (s (ix2 b 0)).toInt.toNat 8191, by omega⟩ : Fin 8192) = ⟨(s (ix2 b 0)).toNat, hs _⟩ :=
    Fin.ext (by have := hs (ix2 b 0); show min (s (ix2 b 0)).toInt.toNat 8191 = (s (ix2 b 0)).toNat; rw [toInt_small _ (hs _)]; omega)
  have et : (⟨min (t (ix2 b l)).toInt.toNat 8191, by omega⟩ : Fin 8192) = ⟨(t (ix2 b l)).toNat, ht _⟩ :=
    Fin.ext (by have := ht (ix2 b l); show min (t (ix2 b l)).toInt.toNat 8191 = (t (ix2 b l)).toNat; rw [toInt_small _ (ht _)]; omega)
  have eP : ∀ k, P (ix2 b k) = unitRow (fun j => H (ix2 ⟨(s (ix2 b 0)).toNat, hs _⟩ j)) k := by
    intro k
    rw [← hP, e1]
    refine congrArg (fun h => unitRow h k) (funext fun j => ?_)
    rw [← es]
    pointwise [gather_row]
  have eQ : ∀ k, Q (ix3 b l k) = unitRow (fun j => G (ix2 ⟨(t (ix2 b l)).toNat, ht _⟩ j)) k := by
    intro k
    rw [← hQ, e2]
    refine congrArg (fun h => unitRow h k) (funext fun j => ?_)
    rw [← et]
    pointwise [gather_rows]
  pointwise [gather_entry, eP, eQ]
  rw [es, et, mul_comm]

/-! ## The means -/

/-- The products of all rows of `H` with all rows of `G`, all over their lengths. -/
abbrev sims (H G : FVec Ideal S8192x64 .f32) : FVec Ideal S8192x8192 .f32 :=
  Host.dotGeneral dot_S8192x64_S64x8192_S8192x8192_1_0_0_1_n_n none (unitAll H) (transpose S64x8192 [1, 0] (unitAll G) transposes_S8192x64_S64x8192_1_0)
abbrev simsT (H G : FVec Ideal S8192x64 .f32) : FVec Ideal S8192x8192 .f32 := transpose S8192x8192 [1, 0] (sims H G) transposes_S8192x8192_S8192x8192_1_0

theorem sims_at (H G : FVec Ideal S8192x64 .f32) (r c : Fin 8192) :
    sims H G (ix2 r c) = ∑ j : Fin 64, (unitRow (fun j => H (ix2 r j)) j * unitRow (fun j => G (ix2 c j)) j : EReal) := by
  have e : ∀ A B : FVec Ideal S8192x64 .f32, (Host.dotGeneral dot_S8192x64_S64x8192_S8192x8192_1_0_0_1_n_n none A (transpose S64x8192 [1, 0] B transposes_S8192x64_S64x8192_1_0) : FVec Ideal S8192x8192 .f32) (ix2 r c)
      = ∑ j : Fin 64, (A (ix2 r j) * B (ix2 c j) : EReal) := by
    intro A B
    pointwise []
  exact (e _ _).trans (Finset.sum_congr rfl fun j _ => congrArg₂ (· * ·) (unitAll_at H r j) (unitAll_at G c j))
theorem simsT_at (H G : FVec Ideal S8192x64 .f32) (r c : Fin 8192) : simsT H G (ix2 r c) = sims H G (ix2 c r) := by
  unfold simsT
  generalize sims H G = A
  pointwise []

section Table

variable (U : FVec Ideal S16384x64 .f32) (H G : FVec Ideal S8192x64 .f32)
variable (hH : ∀ (r : Fin 8192) (k : Fin 64), unitRow (fun j => H (ix2 r j)) k = U (ix2 ⟨r.val, by omega⟩ k))
variable (hG : ∀ (r : Fin 8192) (k : Fin 64), unitRow (fun j => G (ix2 r j)) k = U (ix2 ⟨8192 + r.val, by omega⟩ k))
include hH hG

theorem mean_src (r : Fin 8192) : means (sims H G) (ix1 r) = tableOf U (ix2 ⟨r.val, by omega⟩ ⟨64, by decide⟩) := by
  rw [means_at]
  refine (table_mean U _ _ ?_).symm
  have e : rowS (sims H G) r = prods U ⟨r.val, by omega⟩ := by
    funext c
    unfold rowS prods
    by_cases h : c < 8192
    · rw [dif_pos h, dif_pos h, sims_at]
      refine Finset.sum_congr rfl fun j _ => ?_
      rw [hH, hG]
      refine congrArg (fun z => (U (ix2 ⟨r.val, _⟩ j) * U (ix2 z j) : EReal)) (Fin.ext ?_)
      show 8192 + c = (1 - r.val / 8192) * 8192 + c
      have := r.isLt
      omega
    · rw [dif_neg h, dif_neg h]
  rw [← e]
  exact inOrder_greatest _ r

theorem mean_tgt (r : Fin 8192) : means (simsT H G) (ix1 r) = tableOf U (ix2 ⟨8192 + r.val, by omega⟩ ⟨64, by decide⟩) := by
  rw [means_at]
  refine (table_mean U _ _ ?_).symm
  have e : rowS (simsT H G) r = prods U ⟨8192 + r.val, by omega⟩ := by
    funext c
    unfold rowS prods
    by_cases h : c < 8192
    · rw [dif_pos h, dif_pos h, simsT_at, sims_at]
      refine Finset.sum_congr rfl fun j _ => ?_
      rw [hH, hG, mul_comm]
      refine congrArg (fun z => (U (ix2 ⟨8192 + r.val, _⟩ j) * U (ix2 z j) : EReal)) (Fin.ext ?_)
      show c = (1 - (8192 + r.val) / 8192) * 8192 + c
      omega
    · rw [dif_neg h, dif_neg h]
  rw [← e]
  exact inOrder_greatest _ r

end Table

/-! ## The two results -/

section Rows
variable (X : FVec Ideal S16384x128 .f32) (s t : IVec S1024x16 32)

/-- A row of the array that the kernel's gather leaves for the sources, and for the targets. -/
theorem srcRow_at (hs : Bounded s) (b : Fin 1024) (l : Fin 16) (k : Fin 128) :
    rowsOf X s (ix2 (memberRow b l) k) = X (ix2 ⟨(s (ix2 b l)).toNat, by have := hs (ix2 b l); omega⟩ k) := by
  refine congrArg (fun n : Fin 16384 => X (ix2 n k)) (Fin.ext ?_)
  have e : (ix2 ⟨(b.val * 16 + l.val) / 16, by omega⟩ ⟨(b.val * 16 + l.val) % 16, by omega⟩ : S1024x16.Idx) = ix2 b l :=
    congrArg₂ ix2 (Fin.ext (by show (b.val * 16 + l.val) / 16 = b.val; omega)) (Fin.ext (by show (b.val * 16 + l.val) % 16 = l.val; omega))
  show (s (ix2 ⟨(b.val * 16 + l.val) / 16, _⟩ ⟨(b.val * 16 + l.val) % 16, _⟩)).toNat % 16384 = (s (ix2 b l)).toNat
  rw [e]
  have := hs (ix2 b l)
  omega
theorem tgtRow_at (ht : Bounded t) (b : Fin 1024) (l : Fin 16) (k : Fin 128) :
    rowsOf X (shifted t) (ix2 (memberRow b l) k) = X (ix2 ⟨8192 + (t (ix2 b l)).toNat, by have := ht (ix2 b l); omega⟩ k) := by
  refine congrArg (fun n : Fin 16384 => X (ix2 n k)) (Fin.ext ?_)
  have e : (ix2 ⟨(b.val * 16 + l.val) / 16, by omega⟩ ⟨(b.val * 16 + l.val) % 16, by omega⟩ : S1024x16.Idx) = ix2 b l :=
    congrArg₂ ix2 (Fin.ext (by show (b.val * 16 + l.val) / 16 = b.val; omega)) (Fin.ext (by show (b.val * 16 + l.val) % 16 = l.val; omega))
  show (shifted t (ix2 ⟨(b.val * 16 + l.val) / 16, _⟩ ⟨(b.val * 16 + l.val) % 16, _⟩)).toNat % 16384 = 8192 + (t (ix2 b l)).toNat
  rw [e, shifted_toNat t ht]
  have := ht (ix2 b l)
  omega

end Rows

section Results

variable (U : FVec Ideal S16384x64 .f32) (H G : FVec Ideal S8192x64 .f32) (s t : IVec S1024x16 32)
variable (hH : ∀ (r : Fin 8192) (k : Fin 64), unitRow (fun j => H (ix2 r j)) k = U (ix2 ⟨r.val, by omega⟩ k))
variable (hG : ∀ (r : Fin 8192) (k : Fin 64), unitRow (fun j => G (ix2 r j)) k = U (ix2 ⟨8192 + r.val, by omega⟩ k))
include hH hG

theorem logits_src2tgt (hs : Bounded s) (ht : Bounded t) :
    logits H G (means (sims H G)) (means (simsT H G)) s t = logit (rowsOf (tableOf U) s) (rowsOf (tableOf U) (shifted t)) := by
  funext x
  idx_vars x
  rw [logits_at _ _ _ _ s t hs ht, mean_src U H G hH hG, mean_tgt U H G hH hG]
  show _ = logitAt (rowsOf (tableOf U) s) (rowsOf (tableOf U) (shifted t)) x0 x1
  unfold logitAt
  simp only [srcRow_at (tableOf U) s hs, tgtRow_at (tableOf U) t ht, table_row, hH, hG]

theorem logits_tgt2src (hs : Bounded s) (ht : Bounded t) :
    logits G H (means (simsT H G)) (means (sims H G)) t s = logit (rowsOf (tableOf U) (shifted t)) (rowsOf (tableOf U) s) := by
  funext x
  idx_vars x
  rw [logits_at _ _ _ _ t s ht hs, mean_src U H G hH hG, mean_tgt U H G hH hG]
  show _ = logitAt (rowsOf (tableOf U) (shifted t)) (rowsOf (tableOf U) s) x0 x1
  unfold logitAt
  simp only [srcRow_at (tableOf U) s hs, tgtRow_at (tableOf U) t ht, table_row, hH, hG]

end Results

variable (m : (ℓ : Loc nD τ sig) → Buf (Elt Ideal) ℓ) (ρ : Dev nD → PrngReg)

/-- What the arguments must be: the lists name rows of the halves, and the features are finite. -/
def InDomain (a b : FVec Ideal S8192x64 .f32) (s t : IVec S1024x16 32) : Prop :=
  Bounded s ∧ Bounded t ∧ (∀ j, Real' (a j)) ∧ ∀ j, Real' (b j)

abbrev tab (c : Dev nD) : FVec Ideal S16384x128 .f32 :=
  tabOf (m ((c : Thread nD τ).loc main_arg0)) (m ((c : Thread nD τ).loc main_arg1)) (m ((c : Thread nD τ).loc main_arg4)) (m ((c : Thread nD τ).loc main_arg5))

/-- A row of the reference's tower over its length is the kernel's. -/
theorem unit_tower (A : FVec Ideal S8192x64 .f32) (I : FVec Ideal S64x64 .f32) (hI : ∀ j k, I (ix2 j k) = if j = k then (1 : EReal) else 0)
    (v : FVec Ideal S6x64x1 .f32) (hA : ∀ j, Real' (A j)) (r : Fin 8192) (k : Fin 64) :
    unitRow (fun j => tower A I v (ix2 r j)) k = unitRow (six reflK (fun j => A (ix2 r j)) (fun i j => v (ix3 i j 0))) k := by
  rw [show (fun j => tower A I v (ix2 r j)) = six reflR (fun j => A (ix2 r j)) (fun i j => v (ix3 i j 0)) from funext fun j => tower_at A I hI v r j]
  exact congrFun (unit_six_eq _ _ fun j => hA _) k

/-- The reference's run on such arguments. -/
theorem run_ref (hd : ∀ c : Dev nD, InDomain (m ((c : Thread nD τ).loc main_arg0)) (m ((c : Thread nD τ).loc main_arg1)) (m ((c : Thread nD τ).loc main_arg2))
      (m ((c : Thread nD τ).loc main_arg3))) :
    θ_run (defs (F := Ideal)) (onTc (τ := τ) (main (F := Ideal))) ⟨m, fun _ => 0, ρ⟩ fun r => ∀ c : Dev nD,
      r.2.mem ((c : Thread nD τ).loc main_v229) = logit (rowsOf (tab m c) (m ((c : Thread nD τ).loc main_arg2))) (rowsOf (tab m c) (shifted (m ((c : Thread nD τ).loc main_arg3))))
      ∧ r.2.mem ((c : Thread nD τ).loc main_v236) = logit (rowsOf (tab m c) (shifted (m ((c : Thread nD τ).loc main_arg3)))) (rowsOf (tab m c) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Cert.ReferenceIdeal.Value.run (F := Ideal) m ρ)
  obtain ⟨hs, ht, ha, hb⟩ := hd c
  have hH := fun r k => (unit_tower _ (Cert.ReferenceIdeal.Value.res_main_v5 (StableHlo.launchContents m c)) (iden_at _) (m ((c : Thread nD τ).loc main_arg4)) ha r k).trans
    (units_src (m ((c : Thread nD τ).loc main_arg0)) (m ((c : Thread nD τ).loc main_arg1)) (m ((c : Thread nD τ).loc main_arg4)) (m ((c : Thread nD τ).loc main_arg5)) r k).symm
  have hG := fun r k => (unit_tower _ (Cert.ReferenceIdeal.Value.res_main_v5 (StableHlo.launchContents m c)) (iden_at _) (m ((c : Thread nD τ).loc main_arg5)) hb r k).trans
    (units_tgt (m ((c : Thread nD τ).loc main_arg0)) (m ((c : Thread nD τ).loc main_arg1)) (m ((c : Thread nD τ).loc main_arg4)) (m ((c : Thread nD τ).loc main_arg5)) r k).symm
  exact ⟨(h c).1.trans (logits_src2tgt _ _ _ _ _ hH hG hs ht), (h c).2.1.trans (logits_tgt2src _ _ _ _ _ hH hG hs ht), (h c).2.2⟩

end Cert.Proof.R

end
-- ==== Proof.lean ====
/-
  The certificate's claim. The kernel's runs are `Cert.Proof.B.run_frame` at the bits and `Cert.Proof.I.run_frame`, `Cert.Proof.I.run_value`
  at the extended reals; the reference's is `Cert.Proof.R.run_ref`. Kernel and reference end with the same two arrays of logits.
-/
module

public import proofs.«01_k».proof.Defs
public import proofs.«01_k».proof.Proof.BitsKernelRun
public import proofs.«01_k».proof.Proof.KernelValue
public import proofs.«01_k».proof.Proof.RefValue

@[expose] public section

noncomputable section

namespace Cert.Proof

open Idealize.ShloMosaic Idealize.SL.Sem

theorem frame_kernel : Cert.quiescent_Kernel := fun m g hp =>
  B.run_frame (F := Bits) m g fun c => bounded_of_pre _ _ _ _ _ _ (hp c)

theorem frame_kernelIdeal : Cert.quiescent_KernelIdeal := fun m g hp =>
  I.run_frame (F := Ideal) m g fun c => bounded_of_pre _ _ _ _ _ _ (hp c)

theorem frame_kernelIdeal_domain : Cert.quiescent_KernelIdeal_pre_in_domain := fun m g hp =>
  I.run_frame (F := Ideal) m g fun c =>
    have h := domain_of_pre _ _ _ _ _ _ (hp c)
    ⟨h.1, h.2.1⟩

theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

theorem same_logits : Cert.algebraic_KernelIdeal_ReferenceIdeal_pre_in_domain := by
  intro m g m' g' hp hagree
  have hd := fun c => domain_of_pre _ _ _ _ _ _ (hp c)
  refine ⟨fun c => I.logit (I.srcRows m c) (I.tgtRows m c), fun c => I.logit (I.tgtRows m c) (I.srcRows m c), I.run_value m g fun c => ⟨(hd c).1, (hd c).2.1⟩,
    (θ_run Cert.ReferenceIdeal.defs _ _).mono (fun r h c => ?_) (R.run_ref m' g' fun c => ?_)⟩
  · have hc := h c
    obtain ⟨e0, e1, e2, e3, e4, e5⟩ := hagree c
    unfold R.tab at hc
    rw [e0, e1, e2, e3, e4, e5] at hc ⊢
    exact hc
  · obtain ⟨e0, e1, e2, e3, e4, e5⟩ := hagree c
    rw [e0, e1, e2, e3]
    exact hd c

theorem claim : Cert.Claim :=
  ⟨Cert.Kernel.Gen.facts, Cert.KernelIdeal.Gen.facts, Cert.ReferenceIdeal.Gen.facts, rangeFacts, Cert.Pre_in_domain.Gen.facts,
    frame_kernel, frame_kernelIdeal, frame_kernelIdeal_domain, frame_reference, fun m g _ => frame_reference m g trivial,
    ⟨IdealRules.named_const.statement _ _ _ _ _ rfl, IdealRules.named_const.statement _ _ _ _ _ rfl⟩, same_logits⟩

end Cert.Proof

end
